-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x4096 : Shape := ⟨2, ![8192, 4096]⟩
abbrev S8192x256 : Shape := ⟨2, ![8192, 256]⟩
abbrev S2x2048x1024 : Shape := ⟨3, ![2, 2048, 1024]⟩
abbrev S16x512x256 : Shape := ⟨3, ![16, 512, 256]⟩
abbrev S2 : Shape := ⟨1, ![2]⟩
abbrev S16 : Shape := ⟨1, ![16]⟩
abbrev S_ : Shape := ⟨0, ![]⟩
abbrev S1 : Shape := ⟨1, ![1]⟩
abbrev S1x2048x1024 : Shape := ⟨3, ![1, 2048, 1024]⟩
abbrev S2048x1024 : Shape := ⟨2, ![2048, 1024]⟩
abbrev S512x2048 : Shape := ⟨2, ![512, 2048]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 3
  | .vmem => 5
  | .smem => 0
  | _ => 0

abbrev bufTy : (tb : Table) → Fin (tcTables nBuf tb) → BufTy
  | .hbm, ⟨0, _⟩ => ⟨S512x8192, .bf16⟩
  | .hbm, ⟨1, _⟩ => ⟨S8192x4096, .bf16⟩
  | .hbm, ⟨2, _⟩ => ⟨S8192x256, .f32⟩
  | .local _ .vmem, ⟨0, _⟩ => ⟨S512x8192, .bf16⟩
  | .local _ .vmem, ⟨1, _⟩ => ⟨S8192x256, .f32⟩
  | .local _ .vmem, ⟨2, _⟩ => ⟨S2x2048x1024, .bf16⟩
  | .local _ .vmem, ⟨3, _⟩ => ⟨S16x512x256, .bf16⟩
  | .local _ .vmem, ⟨4, _⟩ => ⟨S16x512x256, .bf16⟩
  | _, _ => ⟨S512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .ne v2 c0_i32
  let v6 : BitVec 32 := Scalar.extui v5
  let c0_i32_0 : BitVec 32 := 0#32
  let v7 : BitVec 1 := Scalar.cmpi .ne v6 c0_i32_0
  v7

def k0_dev1 : Nat :=
  let c0_i32_568 : BitVec 32 := 0#32
  let c0_i32_566 : BitVec 32 := 0#32
  let c1_i32_567 : BitVec 32 := 1#32
  let v785 : BitVec 32 := Scalar.muli c0_i32_566 c1_i32_567
  let v786 : BitVec 32 := Scalar.addi c0_i32_568 v785
  v786.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v8 : BitVec 1 := Scalar.cmpi .ne v2 c1_i32_1
  let v9 : BitVec 32 := Scalar.extui v8
  let c0_i32_2 : BitVec 32 := 0#32
  let v10 : BitVec 1 := Scalar.cmpi .ne v9 c0_i32_2
  v10

def k0_dev2 : Nat :=
  let c0_i32_568 : BitVec 32 := 0#32
  let c1_i32_566 : BitVec 32 := 1#32
  let c1_i32_567 : BitVec 32 := 1#32
  let v785 : BitVec 32 := Scalar.muli c1_i32_566 c1_i32_567
  let v786 : BitVec 32 := Scalar.addi c0_i32_568 v785
  v786.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v11 : BitVec 1 := Scalar.cmpi .ne v2 c2_i32
  let v12 : BitVec 32 := Scalar.extui v11
  let c0_i32_3 : BitVec 32 := 0#32
  let v13 : BitVec 1 := Scalar.cmpi .ne v12 c0_i32_3
  v13

def k0_dev3 : Nat :=
  let c0_i32_568 : BitVec 32 := 0#32
  let c2_i32_566 : BitVec 32 := 2#32
  let c1_i32_567 : BitVec 32 := 1#32
  let v785 : BitVec 32 := Scalar.muli c2_i32_566 c1_i32_567
  let v786 : BitVec 32 := Scalar.addi c0_i32_568 v785
  v786.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v14 : BitVec 1 := Scalar.cmpi .ne v2 c3_i32
  let v15 : BitVec 32 := Scalar.extui v14
  let c0_i32_4 : BitVec 32 := 0#32
  let v16 : BitVec 1 := Scalar.cmpi .ne v15 c0_i32_4
  v16

def k0_dev4 : Nat :=
  let c0_i32_568 : BitVec 32 := 0#32
  let c3_i32_566 : BitVec 32 := 3#32
  let c1_i32_567 : BitVec 32 := 1#32
  let v785 : BitVec 32 := Scalar.muli c3_i32_566 c1_i32_567
  let v786 : BitVec 32 := Scalar.addi c0_i32_568 v785
  v786.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v17 : BitVec 1 := Scalar.cmpi .ne v2 c4_i32_5
  let v18 : BitVec 32 := Scalar.extui v17
  let c0_i32_6 : BitVec 32 := 0#32
  let v19 : BitVec 1 := Scalar.cmpi .ne v18 c0_i32_6
  v19

def k0_dev5 : Nat :=
  let c0_i32_568 : BitVec 32 := 0#32
  let c4_i32_566 : BitVec 32 := 4#32
  let c1_i32_567 : BitVec 32 := 1#32
  let v785 : BitVec 32 := Scalar.muli c4_i32_566 c1_i32_567
  let v786 : BitVec 32 := Scalar.addi c0_i32_568 v785
  v786.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 1 := Scalar.cmpi .ne v2 c5_i32
  let v21 : BitVec 32 := Scalar.extui v20
  let c0_i32_7 : BitVec 32 := 0#32
  let v22 : BitVec 1 := Scalar.cmpi .ne v21 c0_i32_7
  v22

def k0_dev6 : Nat :=
  let c0_i32_568 : BitVec 32 := 0#32
  let c5_i32_566 : BitVec 32 := 5#32
  let c1_i32_567 : BitVec 32 := 1#32
  let v785 : BitVec 32 := Scalar.muli c5_i32_566 c1_i32_567
  let v786 : BitVec 32 := Scalar.addi c0_i32_568 v785
  v786.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v23 : BitVec 1 := Scalar.cmpi .ne v2 c6_i32
  let v24 : BitVec 32 := Scalar.extui v23
  let c0_i32_8 : BitVec 32 := 0#32
  let v25 : BitVec 1 := Scalar.cmpi .ne v24 c0_i32_8
  v25

def k0_dev7 : Nat :=
  let c0_i32_568 : BitVec 32 := 0#32
  let c6_i32_566 : BitVec 32 := 6#32
  let c1_i32_567 : BitVec 32 := 1#32
  let v785 : BitVec 32 := Scalar.muli c6_i32_566 c1_i32_567
  let v786 : BitVec 32 := Scalar.addi c0_i32_568 v785
  v786.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v26 : BitVec 1 := Scalar.cmpi .ne v2 c7_i32
  let v27 : BitVec 32 := Scalar.extui v26
  let c0_i32_9 : BitVec 32 := 0#32
  let v28 : BitVec 1 := Scalar.cmpi .ne v27 c0_i32_9
  v28

def k0_dev8 : Nat :=
  let c0_i32_568 : BitVec 32 := 0#32
  let c7_i32_566 : BitVec 32 := 7#32
  let c1_i32_567 : BitVec 32 := 1#32
  let v785 : BitVec 32 := Scalar.muli c7_i32_566 c1_i32_567
  let v786 : BitVec 32 := Scalar.addi c0_i32_568 v785
  v786.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v29 : BitVec 1 := Scalar.cmpi .ne v2 c8_i32
  let v30 : BitVec 32 := Scalar.extui v29
  let c0_i32_10 : BitVec 32 := 0#32
  let v31 : BitVec 1 := Scalar.cmpi .ne v30 c0_i32_10
  v31

def k0_dev9 : Nat :=
  let c0_i32_568 : BitVec 32 := 0#32
  let c8_i32_566 : BitVec 32 := 8#32
  let c1_i32_567 : BitVec 32 := 1#32
  let v785 : BitVec 32 := Scalar.muli c8_i32_566 c1_i32_567
  let v786 : BitVec 32 := Scalar.addi c0_i32_568 v785
  v786.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v32 : BitVec 1 := Scalar.cmpi .ne v2 c9_i32
  let v33 : BitVec 32 := Scalar.extui v32
  let c0_i32_11 : BitVec 32 := 0#32
  let v34 : BitVec 1 := Scalar.cmpi .ne v33 c0_i32_11
  v34

def k0_dev10 : Nat :=
  let c0_i32_568 : BitVec 32 := 0#32
  let c9_i32_566 : BitVec 32 := 9#32
  let c1_i32_567 : BitVec 32 := 1#32
  let v785 : BitVec 32 := Scalar.muli c9_i32_566 c1_i32_567
  let v786 : BitVec 32 := Scalar.addi c0_i32_568 v785
  v786.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v35 : BitVec 1 := Scalar.cmpi .ne v2 c10_i32
  let v36 : BitVec 32 := Scalar.extui v35
  let c0_i32_12 : BitVec 32 := 0#32
  let v37 : BitVec 1 := Scalar.cmpi .ne v36 c0_i32_12
  v37

def k0_dev11 : Nat :=
  let c0_i32_568 : BitVec 32 := 0#32
  let c10_i32_566 : BitVec 32 := 10#32
  let c1_i32_567 : BitVec 32 := 1#32
  let v785 : BitVec 32 := Scalar.muli c10_i32_566 c1_i32_567
  let v786 : BitVec 32 := Scalar.addi c0_i32_568 v785
  v786.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v38 : BitVec 1 := Scalar.cmpi .ne v2 c11_i32
  let v39 : BitVec 32 := Scalar.extui v38
  let c0_i32_13 : BitVec 32 := 0#32
  let v40 : BitVec 1 := Scalar.cmpi .ne v39 c0_i32_13
  v40

def k0_dev12 : Nat :=
  let c0_i32_568 : BitVec 32 := 0#32
  let c11_i32_566 : BitVec 32 := 11#32
  let c1_i32_567 : BitVec 32 := 1#32
  let v785 : BitVec 32 := Scalar.muli c11_i32_566 c1_i32_567
  let v786 : BitVec 32 := Scalar.addi c0_i32_568 v785
  v786.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v41 : BitVec 1 := Scalar.cmpi .ne v2 c12_i32
  let v42 : BitVec 32 := Scalar.extui v41
  let c0_i32_14 : BitVec 32 := 0#32
  let v43 : BitVec 1 := Scalar.cmpi .ne v42 c0_i32_14
  v43

def k0_dev13 : Nat :=
  let c0_i32_568 : BitVec 32 := 0#32
  let c12_i32_566 : BitVec 32 := 12#32
  let c1_i32_567 : BitVec 32 := 1#32
  let v785 : BitVec 32 := Scalar.muli c12_i32_566 c1_i32_567
  let v786 : BitVec 32 := Scalar.addi c0_i32_568 v785
  v786.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v44 : BitVec 1 := Scalar.cmpi .ne v2 c13_i32
  let v45 : BitVec 32 := Scalar.extui v44
  let c0_i32_15 : BitVec 32 := 0#32
  let v46 : BitVec 1 := Scalar.cmpi .ne v45 c0_i32_15
  v46

def k0_dev14 : Nat :=
  let c0_i32_568 : BitVec 32 := 0#32
  let c13_i32_566 : BitVec 32 := 13#32
  let c1_i32_567 : BitVec 32 := 1#32
  let v785 : BitVec 32 := Scalar.muli c13_i32_566 c1_i32_567
  let v786 : BitVec 32 := Scalar.addi c0_i32_568 v785
  v786.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v47 : BitVec 1 := Scalar.cmpi .ne v2 c14_i32
  let v48 : BitVec 32 := Scalar.extui v47
  let c0_i32_16 : BitVec 32 := 0#32
  let v49 : BitVec 1 := Scalar.cmpi .ne v48 c0_i32_16
  v49

def k0_dev15 : Nat :=
  let c0_i32_568 : BitVec 32 := 0#32
  let c14_i32_566 : BitVec 32 := 14#32
  let c1_i32_567 : BitVec 32 := 1#32
  let v785 : BitVec 32 := Scalar.muli c14_i32_566 c1_i32_567
  let v786 : BitVec 32 := Scalar.addi c0_i32_568 v785
  v786.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v50 : BitVec 1 := Scalar.cmpi .ne v2 c15_i32
  let v51 : BitVec 32 := Scalar.extui v50
  let c0_i32_17 : BitVec 32 := 0#32
  let v52 : BitVec 1 := Scalar.cmpi .ne v51 c0_i32_17
  v52

def k0_dev16 : Nat :=
  let c0_i32_568 : BitVec 32 := 0#32
  let c15_i32_566 : BitVec 32 := 15#32
  let c1_i32_567 : BitVec 32 := 1#32
  let v785 : BitVec 32 := Scalar.muli c15_i32_566 c1_i32_567
  let v786 : BitVec 32 := Scalar.addi c0_i32_568 v785
  v786.toNat
def k0_off1 (d0 : Dev nD) (c0_i32_19 : BitVec 32) : Fin 2 → Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v53 : BitVec 32 := Scalar.addi v3 c0_i32_19
  let c4_i32_20 : BitVec 32 := 4#32
  let v54 : BitVec 32 := Scalar.remsi v53 c4_i32_20
  let c1024_i32 : BitVec 32 := 1024#32
  let v55 : BitVec 32 := Scalar.muli v54 c1024_i32
  ![0, v55.toNat]
def k0_off2 (d0 : Dev nD) (c0_i32_26 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v61 : BitVec 32 := Scalar.addi v3 c0_i32_26
  let c4_i32_27 : BitVec 32 := 4#32
  let v62 : BitVec 32 := Scalar.remsi v61 c4_i32_27
  let c1024_i32_28 : BitVec 32 := 1024#32
  let v63 : BitVec 32 := Scalar.muli v62 c1024_i32_28
  ![2048, v63.toNat]
def k0_off3 (d0 : Dev nD) (c0_i32_47 : BitVec 32) : Fin 2 → Nat :=
  let c4096_i32 : BitVec 32 := 4096#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v84 : BitVec 32 := Scalar.addi v3 c0_i32_47
  let c4_i32_48 : BitVec 32 := 4#32
  let v85 : BitVec 32 := Scalar.remsi v84 c4_i32_48
  let c1024_i32_49 : BitVec 32 := 1024#32
  let v86 : BitVec 32 := Scalar.muli v85 c1024_i32_49
  ![4096, v86.toNat]
def k0_off4 (d0 : Dev nD) (c0_i32_66 : BitVec 32) : Fin 2 → Nat :=
  let c6144_i32 : BitVec 32 := 6144#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let v106 : BitVec 32 := Scalar.addi v3 c0_i32_66
  let c4_i32_67 : BitVec 32 := 4#32
  let v107 : BitVec 32 := Scalar.remsi v106 c4_i32_67
  let c1024_i32_68 : BitVec 32 := 1024#32
  let v108 : BitVec 32 := Scalar.muli v107 c1024_i32_68
  ![6144, v108.toNat]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_119 : BitVec 32 := 4#32
  let v171 : BitVec 32 := Scalar.muli v70 c4_i32_119
  let c0_i32_120 : BitVec 32 := 0#32
  let v172 : BitVec 32 := Scalar.addi v171 c0_i32_120
  let v174 : BitVec 1 := Scalar.cmpi .eq v172 v2
  let v175 : BitVec 32 := Scalar.extui v174
  let c0_i32_121 : BitVec 32 := 0#32
  let v176 : BitVec 1 := Scalar.cmpi .ne v175 c0_i32_121
  v176

def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_119 : BitVec 32 := 4#32
  let v171 : BitVec 32 := Scalar.muli v70 c4_i32_119
  let c0_i32_120 : BitVec 32 := 0#32
  let v172 : BitVec 32 := Scalar.addi v171 c0_i32_120
  let v177 : BitVec 1 := Scalar.cmpi .ne v172 v2
  let v178 : BitVec 32 := Scalar.extui v177
  let c0_i32_122 : BitVec 32 := 0#32
  let v179 : BitVec 1 := Scalar.cmpi .ne v178 c0_i32_122
  v179

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_572 : BitVec 32 := 0#32
  let c0_i32_573 : BitVec 32 := 0#32
  ![v2.toNat, 0, 0]
def k0_dev17 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_119 : BitVec 32 := 4#32
  let v171 : BitVec 32 := Scalar.muli v70 c4_i32_119
  let c0_i32_120 : BitVec 32 := 0#32
  let v172 : BitVec 32 := Scalar.addi v171 c0_i32_120
  let c1_i32_570 : BitVec 32 := 1#32
  let v789 : BitVec 32 := Scalar.muli v172 c1_i32_570
  let v790 : BitVec 32 := Scalar.addi c0_i32_571 v789
  v790.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_123 : BitVec 32 := 4#32
  let v180 : BitVec 32 := Scalar.muli v70 c4_i32_123
  let c1_i32_124 : BitVec 32 := 1#32
  let v181 : BitVec 32 := Scalar.addi v180 c1_i32_124
  let v183 : BitVec 1 := Scalar.cmpi .eq v181 v2
  let v184 : BitVec 32 := Scalar.extui v183
  let c0_i32_125 : BitVec 32 := 0#32
  let v185 : BitVec 1 := Scalar.cmpi .ne v184 c0_i32_125
  v185

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_123 : BitVec 32 := 4#32
  let v180 : BitVec 32 := Scalar.muli v70 c4_i32_123
  let c1_i32_124 : BitVec 32 := 1#32
  let v181 : BitVec 32 := Scalar.addi v180 c1_i32_124
  let v186 : BitVec 1 := Scalar.cmpi .ne v181 v2
  let v187 : BitVec 32 := Scalar.extui v186
  let c0_i32_126 : BitVec 32 := 0#32
  let v188 : BitVec 1 := Scalar.cmpi .ne v187 c0_i32_126
  v188

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_572 : BitVec 32 := 0#32
  let c0_i32_573 : BitVec 32 := 0#32
  ![v2.toNat, 0, 0]
def k0_dev18 (d0 : Dev nD) : Nat :=
  let c0_i32_571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_123 : BitVec 32 := 4#32
  let v180 : BitVec 32 := Scalar.muli v70 c4_i32_123
  let c1_i32_124 : BitVec 32 := 1#32
  let v181 : BitVec 32 := Scalar.addi v180 c1_i32_124
  let c1_i32_570 : BitVec 32 := 1#32
  let v789 : BitVec 32 := Scalar.muli v181 c1_i32_570
  let v790 : BitVec 32 := Scalar.addi c0_i32_571 v789
  v790.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_127 : BitVec 32 := 4#32
  let v189 : BitVec 32 := Scalar.muli v70 c4_i32_127
  let c2_i32_128 : BitVec 32 := 2#32
  let v190 : BitVec 32 := Scalar.addi v189 c2_i32_128
  let v192 : BitVec 1 := Scalar.cmpi .eq v190 v2
  let v193 : BitVec 32 := Scalar.extui v192
  let c0_i32_129 : BitVec 32 := 0#32
  let v194 : BitVec 1 := Scalar.cmpi .ne v193 c0_i32_129
  v194

def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_127 : BitVec 32 := 4#32
  let v189 : BitVec 32 := Scalar.muli v70 c4_i32_127
  let c2_i32_128 : BitVec 32 := 2#32
  let v190 : BitVec 32 := Scalar.addi v189 c2_i32_128
  let v195 : BitVec 1 := Scalar.cmpi .ne v190 v2
  let v196 : BitVec 32 := Scalar.extui v195
  let c0_i32_130 : BitVec 32 := 0#32
  let v197 : BitVec 1 := Scalar.cmpi .ne v196 c0_i32_130
  v197

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev19 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_127 : BitVec 32 := 4#32
  let v189 : BitVec 32 := Scalar.muli v70 c4_i32_127
  let c2_i32_128 : BitVec 32 := 2#32
  let v190 : BitVec 32 := Scalar.addi v189 c2_i32_128
  let c1_i32_569 : BitVec 32 := 1#32
  let v789 : BitVec 32 := Scalar.muli v190 c1_i32_569
  let v790 : BitVec 32 := Scalar.addi c0_i32_570 v789
  v790.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_131 : BitVec 32 := 4#32
  let v198 : BitVec 32 := Scalar.muli v70 c4_i32_131
  let c3_i32_132 : BitVec 32 := 3#32
  let v199 : BitVec 32 := Scalar.addi v198 c3_i32_132
  let v201 : BitVec 1 := Scalar.cmpi .eq v199 v2
  let v202 : BitVec 32 := Scalar.extui v201
  let c0_i32_133 : BitVec 32 := 0#32
  let v203 : BitVec 1 := Scalar.cmpi .ne v202 c0_i32_133
  v203

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_131 : BitVec 32 := 4#32
  let v198 : BitVec 32 := Scalar.muli v70 c4_i32_131
  let c3_i32_132 : BitVec 32 := 3#32
  let v199 : BitVec 32 := Scalar.addi v198 c3_i32_132
  let v204 : BitVec 1 := Scalar.cmpi .ne v199 v2
  let v205 : BitVec 32 := Scalar.extui v204
  let c0_i32_134 : BitVec 32 := 0#32
  let v206 : BitVec 1 := Scalar.cmpi .ne v205 c0_i32_134
  v206

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev20 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_33 : BitVec 32 := 0#32
  let v69 : BitVec 32 := Scalar.addi v3 c0_i32_33
  let c4_i32_34 : BitVec 32 := 4#32
  let v70 : BitVec 32 := Scalar.remsi v69 c4_i32_34
  let c4_i32_131 : BitVec 32 := 4#32
  let v198 : BitVec 32 := Scalar.muli v70 c4_i32_131
  let c3_i32_132 : BitVec 32 := 3#32
  let v199 : BitVec 32 := Scalar.addi v198 c3_i32_132
  let c1_i32_569 : BitVec 32 := 1#32
  let v789 : BitVec 32 := Scalar.muli v199 c1_i32_569
  let v790 : BitVec 32 := Scalar.addi c0_i32_570 v789
  v790.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_229 : BitVec 32 := 4#32
  let v309 : BitVec 32 := Scalar.muli v208 c4_i32_229
  let c0_i32_230 : BitVec 32 := 0#32
  let v310 : BitVec 32 := Scalar.addi v309 c0_i32_230
  let v312 : BitVec 1 := Scalar.cmpi .eq v310 v2
  let v313 : BitVec 32 := Scalar.extui v312
  let c0_i32_231 : BitVec 32 := 0#32
  let v314 : BitVec 1 := Scalar.cmpi .ne v313 c0_i32_231
  v314

def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_229 : BitVec 32 := 4#32
  let v309 : BitVec 32 := Scalar.muli v208 c4_i32_229
  let c0_i32_230 : BitVec 32 := 0#32
  let v310 : BitVec 32 := Scalar.addi v309 c0_i32_230
  let v315 : BitVec 1 := Scalar.cmpi .ne v310 v2
  let v316 : BitVec 32 := Scalar.extui v315
  let c0_i32_232 : BitVec 32 := 0#32
  let v317 : BitVec 1 := Scalar.cmpi .ne v316 c0_i32_232
  v317

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev21 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_229 : BitVec 32 := 4#32
  let v309 : BitVec 32 := Scalar.muli v208 c4_i32_229
  let c0_i32_230 : BitVec 32 := 0#32
  let v310 : BitVec 32 := Scalar.addi v309 c0_i32_230
  let c1_i32_569 : BitVec 32 := 1#32
  let v789 : BitVec 32 := Scalar.muli v310 c1_i32_569
  let v790 : BitVec 32 := Scalar.addi c0_i32_570 v789
  v790.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_233 : BitVec 32 := 4#32
  let v318 : BitVec 32 := Scalar.muli v208 c4_i32_233
  let c1_i32_234 : BitVec 32 := 1#32
  let v319 : BitVec 32 := Scalar.addi v318 c1_i32_234
  let v321 : BitVec 1 := Scalar.cmpi .eq v319 v2
  let v322 : BitVec 32 := Scalar.extui v321
  let c0_i32_235 : BitVec 32 := 0#32
  let v323 : BitVec 1 := Scalar.cmpi .ne v322 c0_i32_235
  v323

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_233 : BitVec 32 := 4#32
  let v318 : BitVec 32 := Scalar.muli v208 c4_i32_233
  let c1_i32_234 : BitVec 32 := 1#32
  let v319 : BitVec 32 := Scalar.addi v318 c1_i32_234
  let v324 : BitVec 1 := Scalar.cmpi .ne v319 v2
  let v325 : BitVec 32 := Scalar.extui v324
  let c0_i32_236 : BitVec 32 := 0#32
  let v326 : BitVec 1 := Scalar.cmpi .ne v325 c0_i32_236
  v326

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev22 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_233 : BitVec 32 := 4#32
  let v318 : BitVec 32 := Scalar.muli v208 c4_i32_233
  let c1_i32_234 : BitVec 32 := 1#32
  let v319 : BitVec 32 := Scalar.addi v318 c1_i32_234
  let c1_i32_569 : BitVec 32 := 1#32
  let v789 : BitVec 32 := Scalar.muli v319 c1_i32_569
  let v790 : BitVec 32 := Scalar.addi c0_i32_570 v789
  v790.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_237 : BitVec 32 := 4#32
  let v327 : BitVec 32 := Scalar.muli v208 c4_i32_237
  let c2_i32_238 : BitVec 32 := 2#32
  let v328 : BitVec 32 := Scalar.addi v327 c2_i32_238
  let v330 : BitVec 1 := Scalar.cmpi .eq v328 v2
  let v331 : BitVec 32 := Scalar.extui v330
  let c0_i32_239 : BitVec 32 := 0#32
  let v332 : BitVec 1 := Scalar.cmpi .ne v331 c0_i32_239
  v332

def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_237 : BitVec 32 := 4#32
  let v327 : BitVec 32 := Scalar.muli v208 c4_i32_237
  let c2_i32_238 : BitVec 32 := 2#32
  let v328 : BitVec 32 := Scalar.addi v327 c2_i32_238
  let v333 : BitVec 1 := Scalar.cmpi .ne v328 v2
  let v334 : BitVec 32 := Scalar.extui v333
  let c0_i32_240 : BitVec 32 := 0#32
  let v335 : BitVec 1 := Scalar.cmpi .ne v334 c0_i32_240
  v335

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev23 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_237 : BitVec 32 := 4#32
  let v327 : BitVec 32 := Scalar.muli v208 c4_i32_237
  let c2_i32_238 : BitVec 32 := 2#32
  let v328 : BitVec 32 := Scalar.addi v327 c2_i32_238
  let c1_i32_569 : BitVec 32 := 1#32
  let v789 : BitVec 32 := Scalar.muli v328 c1_i32_569
  let v790 : BitVec 32 := Scalar.addi c0_i32_570 v789
  v790.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_241 : BitVec 32 := 4#32
  let v336 : BitVec 32 := Scalar.muli v208 c4_i32_241
  let c3_i32_242 : BitVec 32 := 3#32
  let v337 : BitVec 32 := Scalar.addi v336 c3_i32_242
  let v339 : BitVec 1 := Scalar.cmpi .eq v337 v2
  let v340 : BitVec 32 := Scalar.extui v339
  let c0_i32_243 : BitVec 32 := 0#32
  let v341 : BitVec 1 := Scalar.cmpi .ne v340 c0_i32_243
  v341

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_241 : BitVec 32 := 4#32
  let v336 : BitVec 32 := Scalar.muli v208 c4_i32_241
  let c3_i32_242 : BitVec 32 := 3#32
  let v337 : BitVec 32 := Scalar.addi v336 c3_i32_242
  let v342 : BitVec 1 := Scalar.cmpi .ne v337 v2
  let v343 : BitVec 32 := Scalar.extui v342
  let c0_i32_244 : BitVec 32 := 0#32
  let v344 : BitVec 1 := Scalar.cmpi .ne v343 c0_i32_244
  v344

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev24 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_135 : BitVec 32 := 1#32
  let v207 : BitVec 32 := Scalar.addi v3 c1_i32_135
  let c4_i32_136 : BitVec 32 := 4#32
  let v208 : BitVec 32 := Scalar.remsi v207 c4_i32_136
  let c4_i32_241 : BitVec 32 := 4#32
  let v336 : BitVec 32 := Scalar.muli v208 c4_i32_241
  let c3_i32_242 : BitVec 32 := 3#32
  let v337 : BitVec 32 := Scalar.addi v336 c3_i32_242
  let c1_i32_569 : BitVec 32 := 1#32
  let v789 : BitVec 32 := Scalar.muli v337 c1_i32_569
  let v790 : BitVec 32 := Scalar.addi c0_i32_570 v789
  v790.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_339 : BitVec 32 := 4#32
  let v447 : BitVec 32 := Scalar.muli v346 c4_i32_339
  let c0_i32_340 : BitVec 32 := 0#32
  let v448 : BitVec 32 := Scalar.addi v447 c0_i32_340
  let v450 : BitVec 1 := Scalar.cmpi .eq v448 v2
  let v451 : BitVec 32 := Scalar.extui v450
  let c0_i32_341 : BitVec 32 := 0#32
  let v452 : BitVec 1 := Scalar.cmpi .ne v451 c0_i32_341
  v452

def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_339 : BitVec 32 := 4#32
  let v447 : BitVec 32 := Scalar.muli v346 c4_i32_339
  let c0_i32_340 : BitVec 32 := 0#32
  let v448 : BitVec 32 := Scalar.addi v447 c0_i32_340
  let v453 : BitVec 1 := Scalar.cmpi .ne v448 v2
  let v454 : BitVec 32 := Scalar.extui v453
  let c0_i32_342 : BitVec 32 := 0#32
  let v455 : BitVec 1 := Scalar.cmpi .ne v454 c0_i32_342
  v455

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev25 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_339 : BitVec 32 := 4#32
  let v447 : BitVec 32 := Scalar.muli v346 c4_i32_339
  let c0_i32_340 : BitVec 32 := 0#32
  let v448 : BitVec 32 := Scalar.addi v447 c0_i32_340
  let c1_i32_569 : BitVec 32 := 1#32
  let v789 : BitVec 32 := Scalar.muli v448 c1_i32_569
  let v790 : BitVec 32 := Scalar.addi c0_i32_570 v789
  v790.toNat
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_343 : BitVec 32 := 4#32
  let v456 : BitVec 32 := Scalar.muli v346 c4_i32_343
  let c1_i32_344 : BitVec 32 := 1#32
  let v457 : BitVec 32 := Scalar.addi v456 c1_i32_344
  let v459 : BitVec 1 := Scalar.cmpi .eq v457 v2
  let v460 : BitVec 32 := Scalar.extui v459
  let c0_i32_345 : BitVec 32 := 0#32
  let v461 : BitVec 1 := Scalar.cmpi .ne v460 c0_i32_345
  v461

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_343 : BitVec 32 := 4#32
  let v456 : BitVec 32 := Scalar.muli v346 c4_i32_343
  let c1_i32_344 : BitVec 32 := 1#32
  let v457 : BitVec 32 := Scalar.addi v456 c1_i32_344
  let v462 : BitVec 1 := Scalar.cmpi .ne v457 v2
  let v463 : BitVec 32 := Scalar.extui v462
  let c0_i32_346 : BitVec 32 := 0#32
  let v464 : BitVec 1 := Scalar.cmpi .ne v463 c0_i32_346
  v464

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev26 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_343 : BitVec 32 := 4#32
  let v456 : BitVec 32 := Scalar.muli v346 c4_i32_343
  let c1_i32_344 : BitVec 32 := 1#32
  let v457 : BitVec 32 := Scalar.addi v456 c1_i32_344
  let c1_i32_569 : BitVec 32 := 1#32
  let v789 : BitVec 32 := Scalar.muli v457 c1_i32_569
  let v790 : BitVec 32 := Scalar.addi c0_i32_570 v789
  v790.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_347 : BitVec 32 := 4#32
  let v465 : BitVec 32 := Scalar.muli v346 c4_i32_347
  let c2_i32_348 : BitVec 32 := 2#32
  let v466 : BitVec 32 := Scalar.addi v465 c2_i32_348
  let v468 : BitVec 1 := Scalar.cmpi .eq v466 v2
  let v469 : BitVec 32 := Scalar.extui v468
  let c0_i32_349 : BitVec 32 := 0#32
  let v470 : BitVec 1 := Scalar.cmpi .ne v469 c0_i32_349
  v470

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_347 : BitVec 32 := 4#32
  let v465 : BitVec 32 := Scalar.muli v346 c4_i32_347
  let c2_i32_348 : BitVec 32 := 2#32
  let v466 : BitVec 32 := Scalar.addi v465 c2_i32_348
  let v471 : BitVec 1 := Scalar.cmpi .ne v466 v2
  let v472 : BitVec 32 := Scalar.extui v471
  let c0_i32_350 : BitVec 32 := 0#32
  let v473 : BitVec 1 := Scalar.cmpi .ne v472 c0_i32_350
  v473

def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev27 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_347 : BitVec 32 := 4#32
  let v465 : BitVec 32 := Scalar.muli v346 c4_i32_347
  let c2_i32_348 : BitVec 32 := 2#32
  let v466 : BitVec 32 := Scalar.addi v465 c2_i32_348
  let c1_i32_569 : BitVec 32 := 1#32
  let v789 : BitVec 32 := Scalar.muli v466 c1_i32_569
  let v790 : BitVec 32 := Scalar.addi c0_i32_570 v789
  v790.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_351 : BitVec 32 := 4#32
  let v474 : BitVec 32 := Scalar.muli v346 c4_i32_351
  let c3_i32_352 : BitVec 32 := 3#32
  let v475 : BitVec 32 := Scalar.addi v474 c3_i32_352
  let v477 : BitVec 1 := Scalar.cmpi .eq v475 v2
  let v478 : BitVec 32 := Scalar.extui v477
  let c0_i32_353 : BitVec 32 := 0#32
  let v479 : BitVec 1 := Scalar.cmpi .ne v478 c0_i32_353
  v479

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_351 : BitVec 32 := 4#32
  let v474 : BitVec 32 := Scalar.muli v346 c4_i32_351
  let c3_i32_352 : BitVec 32 := 3#32
  let v475 : BitVec 32 := Scalar.addi v474 c3_i32_352
  let v480 : BitVec 1 := Scalar.cmpi .ne v475 v2
  let v481 : BitVec 32 := Scalar.extui v480
  let c0_i32_354 : BitVec 32 := 0#32
  let v482 : BitVec 1 := Scalar.cmpi .ne v481 c0_i32_354
  v482

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev28 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_245 : BitVec 32 := 2#32
  let v345 : BitVec 32 := Scalar.addi v3 c2_i32_245
  let c4_i32_246 : BitVec 32 := 4#32
  let v346 : BitVec 32 := Scalar.remsi v345 c4_i32_246
  let c4_i32_351 : BitVec 32 := 4#32
  let v474 : BitVec 32 := Scalar.muli v346 c4_i32_351
  let c3_i32_352 : BitVec 32 := 3#32
  let v475 : BitVec 32 := Scalar.addi v474 c3_i32_352
  let c1_i32_569 : BitVec 32 := 1#32
  let v789 : BitVec 32 := Scalar.muli v475 c1_i32_569
  let v790 : BitVec 32 := Scalar.addi c0_i32_570 v789
  v790.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_433 : BitVec 32 := 4#32
  let v569 : BitVec 32 := Scalar.muli v484 c4_i32_433
  let c0_i32_434 : BitVec 32 := 0#32
  let v570 : BitVec 32 := Scalar.addi v569 c0_i32_434
  let v572 : BitVec 1 := Scalar.cmpi .eq v570 v2
  let v573 : BitVec 32 := Scalar.extui v572
  let c0_i32_435 : BitVec 32 := 0#32
  let v574 : BitVec 1 := Scalar.cmpi .ne v573 c0_i32_435
  v574

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_433 : BitVec 32 := 4#32
  let v569 : BitVec 32 := Scalar.muli v484 c4_i32_433
  let c0_i32_434 : BitVec 32 := 0#32
  let v570 : BitVec 32 := Scalar.addi v569 c0_i32_434
  let v575 : BitVec 1 := Scalar.cmpi .ne v570 v2
  let v576 : BitVec 32 := Scalar.extui v575
  let c0_i32_436 : BitVec 32 := 0#32
  let v577 : BitVec 1 := Scalar.cmpi .ne v576 c0_i32_436
  v577

def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev29 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_433 : BitVec 32 := 4#32
  let v569 : BitVec 32 := Scalar.muli v484 c4_i32_433
  let c0_i32_434 : BitVec 32 := 0#32
  let v570 : BitVec 32 := Scalar.addi v569 c0_i32_434
  let c1_i32_569 : BitVec 32 := 1#32
  let v789 : BitVec 32 := Scalar.muli v570 c1_i32_569
  let v790 : BitVec 32 := Scalar.addi c0_i32_570 v789
  v790.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_437 : BitVec 32 := 4#32
  let v578 : BitVec 32 := Scalar.muli v484 c4_i32_437
  let c1_i32_438 : BitVec 32 := 1#32
  let v579 : BitVec 32 := Scalar.addi v578 c1_i32_438
  let v581 : BitVec 1 := Scalar.cmpi .eq v579 v2
  let v582 : BitVec 32 := Scalar.extui v581
  let c0_i32_439 : BitVec 32 := 0#32
  let v583 : BitVec 1 := Scalar.cmpi .ne v582 c0_i32_439
  v583

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_437 : BitVec 32 := 4#32
  let v578 : BitVec 32 := Scalar.muli v484 c4_i32_437
  let c1_i32_438 : BitVec 32 := 1#32
  let v579 : BitVec 32 := Scalar.addi v578 c1_i32_438
  let v584 : BitVec 1 := Scalar.cmpi .ne v579 v2
  let v585 : BitVec 32 := Scalar.extui v584
  let c0_i32_440 : BitVec 32 := 0#32
  let v586 : BitVec 1 := Scalar.cmpi .ne v585 c0_i32_440
  v586

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev30 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_437 : BitVec 32 := 4#32
  let v578 : BitVec 32 := Scalar.muli v484 c4_i32_437
  let c1_i32_438 : BitVec 32 := 1#32
  let v579 : BitVec 32 := Scalar.addi v578 c1_i32_438
  let c1_i32_569 : BitVec 32 := 1#32
  let v789 : BitVec 32 := Scalar.muli v579 c1_i32_569
  let v790 : BitVec 32 := Scalar.addi c0_i32_570 v789
  v790.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_441 : BitVec 32 := 4#32
  let v587 : BitVec 32 := Scalar.muli v484 c4_i32_441
  let c2_i32_442 : BitVec 32 := 2#32
  let v588 : BitVec 32 := Scalar.addi v587 c2_i32_442
  let v590 : BitVec 1 := Scalar.cmpi .eq v588 v2
  let v591 : BitVec 32 := Scalar.extui v590
  let c0_i32_443 : BitVec 32 := 0#32
  let v592 : BitVec 1 := Scalar.cmpi .ne v591 c0_i32_443
  v592

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_441 : BitVec 32 := 4#32
  let v587 : BitVec 32 := Scalar.muli v484 c4_i32_441
  let c2_i32_442 : BitVec 32 := 2#32
  let v588 : BitVec 32 := Scalar.addi v587 c2_i32_442
  let v593 : BitVec 1 := Scalar.cmpi .ne v588 v2
  let v594 : BitVec 32 := Scalar.extui v593
  let c0_i32_444 : BitVec 32 := 0#32
  let v595 : BitVec 1 := Scalar.cmpi .ne v594 c0_i32_444
  v595

def k0_off48 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev31 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_441 : BitVec 32 := 4#32
  let v587 : BitVec 32 := Scalar.muli v484 c4_i32_441
  let c2_i32_442 : BitVec 32 := 2#32
  let v588 : BitVec 32 := Scalar.addi v587 c2_i32_442
  let c1_i32_569 : BitVec 32 := 1#32
  let v789 : BitVec 32 := Scalar.muli v588 c1_i32_569
  let v790 : BitVec 32 := Scalar.addi c0_i32_570 v789
  v790.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_445 : BitVec 32 := 4#32
  let v596 : BitVec 32 := Scalar.muli v484 c4_i32_445
  let c3_i32_446 : BitVec 32 := 3#32
  let v597 : BitVec 32 := Scalar.addi v596 c3_i32_446
  let v599 : BitVec 1 := Scalar.cmpi .eq v597 v2
  let v600 : BitVec 32 := Scalar.extui v599
  let c0_i32_447 : BitVec 32 := 0#32
  let v601 : BitVec 1 := Scalar.cmpi .ne v600 c0_i32_447
  v601

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v785 : BitVec 32 := Scalar.muli v2 c512_i32
  let v786 : Index := Scalar.indexCast v785
  let c0_565 : Index := 0#32
  ![v786.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_445 : BitVec 32 := 4#32
  let v596 : BitVec 32 := Scalar.muli v484 c4_i32_445
  let c3_i32_446 : BitVec 32 := 3#32
  let v597 : BitVec 32 := Scalar.addi v596 c3_i32_446
  let v602 : BitVec 1 := Scalar.cmpi .ne v597 v2
  let v603 : BitVec 32 := Scalar.extui v602
  let c0_i32_448 : BitVec 32 := 0#32
  let v604 : BitVec 1 := Scalar.cmpi .ne v603 c0_i32_448
  v604

def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_571 : BitVec 32 := 0#32
  let c0_i32_572 : BitVec 32 := 0#32
  ![v2.toNat, 0, 0]
def k0_dev32 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_355 : BitVec 32 := 3#32
  let v483 : BitVec 32 := Scalar.addi v3 c3_i32_355
  let c4_i32_356 : BitVec 32 := 4#32
  let v484 : BitVec 32 := Scalar.remsi v483 c4_i32_356
  let c4_i32_445 : BitVec 32 := 4#32
  let v596 : BitVec 32 := Scalar.muli v484 c4_i32_445
  let c3_i32_446 : BitVec 32 := 3#32
  let v597 : BitVec 32 := Scalar.addi v596 c3_i32_446
  let c1_i32_569 : BitVec 32 := 1#32
  let v789 : BitVec 32 := Scalar.muli v597 c1_i32_569
  let v790 : BitVec 32 := Scalar.addi c0_i32_570 v789
  v790.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_452 : BitVec 32 := 4#32
  let v608 : BitVec 32 := Scalar.muli v607 c4_i32_452
  let c0_i32_453 : BitVec 32 := 0#32
  let v609 : BitVec 32 := Scalar.addi v608 c0_i32_453
  let v610 : BitVec 1 := Scalar.cmpi .ne v609 v2
  let v611 : BitVec 32 := Scalar.extui v610
  let c0_i32_454 : BitVec 32 := 0#32
  let v612 : BitVec 1 := Scalar.cmpi .ne v611 c0_i32_454
  v612

def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_452 : BitVec 32 := 4#32
  let v608 : BitVec 32 := Scalar.muli v607 c4_i32_452
  let c0_i32_453 : BitVec 32 := 0#32
  let v609 : BitVec 32 := Scalar.addi v608 c0_i32_453
  ![v609.toNat]
def k0_off54 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_452 : BitVec 32 := 4#32
  let v608 : BitVec 32 := Scalar.muli v607 c4_i32_452
  let c0_i32_453 : BitVec 32 := 0#32
  let v609 : BitVec 32 := Scalar.addi v608 c0_i32_453
  let c0_i32_569 : BitVec 32 := 0#32
  let c0_i32_570 : BitVec 32 := 0#32
  ![v609.toNat, 0, 0]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_452 : BitVec 32 := 4#32
  let v608 : BitVec 32 := Scalar.muli v607 c4_i32_452
  let c0_i32_453 : BitVec 32 := 0#32
  let v609 : BitVec 32 := Scalar.addi v608 c0_i32_453
  let v793 : Index := Scalar.indexCast v609
  let c0_573 : Index := 0#32
  let c0_574 : Index := 0#32
  ![v793.toNat, 0, 0]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_452 : BitVec 32 := 4#32
  let v608 : BitVec 32 := Scalar.muli v607 c4_i32_452
  let c0_i32_453 : BitVec 32 := 0#32
  let v609 : BitVec 32 := Scalar.addi v608 c0_i32_453
  let c512_i32 : BitVec 32 := 512#32
  let v797 : BitVec 32 := Scalar.muli v609 c512_i32
  let v798 : Index := Scalar.indexCast v797
  let c0_575 : Index := 0#32
  ![v798.toNat, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_455 : BitVec 32 := 4#32
  let v613 : BitVec 32 := Scalar.muli v607 c4_i32_455
  let c1_i32_456 : BitVec 32 := 1#32
  let v614 : BitVec 32 := Scalar.addi v613 c1_i32_456
  let v615 : BitVec 1 := Scalar.cmpi .ne v614 v2
  let v616 : BitVec 32 := Scalar.extui v615
  let c0_i32_457 : BitVec 32 := 0#32
  let v617 : BitVec 1 := Scalar.cmpi .ne v616 c0_i32_457
  v617

def k0_off57 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_455 : BitVec 32 := 4#32
  let v613 : BitVec 32 := Scalar.muli v607 c4_i32_455
  let c1_i32_456 : BitVec 32 := 1#32
  let v614 : BitVec 32 := Scalar.addi v613 c1_i32_456
  ![v614.toNat]
def k0_off58 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_455 : BitVec 32 := 4#32
  let v613 : BitVec 32 := Scalar.muli v607 c4_i32_455
  let c1_i32_456 : BitVec 32 := 1#32
  let v614 : BitVec 32 := Scalar.addi v613 c1_i32_456
  let c0_i32_569 : BitVec 32 := 0#32
  let c0_i32_570 : BitVec 32 := 0#32
  ![v614.toNat, 0, 0]
def k0_off59 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_455 : BitVec 32 := 4#32
  let v613 : BitVec 32 := Scalar.muli v607 c4_i32_455
  let c1_i32_456 : BitVec 32 := 1#32
  let v614 : BitVec 32 := Scalar.addi v613 c1_i32_456
  let v793 : Index := Scalar.indexCast v614
  let c0_573 : Index := 0#32
  let c0_574 : Index := 0#32
  ![v793.toNat, 0, 0]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_455 : BitVec 32 := 4#32
  let v613 : BitVec 32 := Scalar.muli v607 c4_i32_455
  let c1_i32_456 : BitVec 32 := 1#32
  let v614 : BitVec 32 := Scalar.addi v613 c1_i32_456
  let c512_i32 : BitVec 32 := 512#32
  let v797 : BitVec 32 := Scalar.muli v614 c512_i32
  let v798 : Index := Scalar.indexCast v797
  let c0_575 : Index := 0#32
  ![v798.toNat, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_458 : BitVec 32 := 4#32
  let v618 : BitVec 32 := Scalar.muli v607 c4_i32_458
  let c2_i32_459 : BitVec 32 := 2#32
  let v619 : BitVec 32 := Scalar.addi v618 c2_i32_459
  let v620 : BitVec 1 := Scalar.cmpi .ne v619 v2
  let v621 : BitVec 32 := Scalar.extui v620
  let c0_i32_460 : BitVec 32 := 0#32
  let v622 : BitVec 1 := Scalar.cmpi .ne v621 c0_i32_460
  v622

def k0_off61 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_458 : BitVec 32 := 4#32
  let v618 : BitVec 32 := Scalar.muli v607 c4_i32_458
  let c2_i32_459 : BitVec 32 := 2#32
  let v619 : BitVec 32 := Scalar.addi v618 c2_i32_459
  ![v619.toNat]
def k0_off62 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_458 : BitVec 32 := 4#32
  let v618 : BitVec 32 := Scalar.muli v607 c4_i32_458
  let c2_i32_459 : BitVec 32 := 2#32
  let v619 : BitVec 32 := Scalar.addi v618 c2_i32_459
  let c0_i32_569 : BitVec 32 := 0#32
  let c0_i32_570 : BitVec 32 := 0#32
  ![v619.toNat, 0, 0]
def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_458 : BitVec 32 := 4#32
  let v618 : BitVec 32 := Scalar.muli v607 c4_i32_458
  let c2_i32_459 : BitVec 32 := 2#32
  let v619 : BitVec 32 := Scalar.addi v618 c2_i32_459
  let v793 : Index := Scalar.indexCast v619
  let c0_573 : Index := 0#32
  let c0_574 : Index := 0#32
  ![v793.toNat, 0, 0]
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_458 : BitVec 32 := 4#32
  let v618 : BitVec 32 := Scalar.muli v607 c4_i32_458
  let c2_i32_459 : BitVec 32 := 2#32
  let v619 : BitVec 32 := Scalar.addi v618 c2_i32_459
  let c512_i32 : BitVec 32 := 512#32
  let v797 : BitVec 32 := Scalar.muli v619 c512_i32
  let v798 : Index := Scalar.indexCast v797
  let c0_575 : Index := 0#32
  ![v798.toNat, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_461 : BitVec 32 := 4#32
  let v623 : BitVec 32 := Scalar.muli v607 c4_i32_461
  let c3_i32_462 : BitVec 32 := 3#32
  let v624 : BitVec 32 := Scalar.addi v623 c3_i32_462
  let v625 : BitVec 1 := Scalar.cmpi .ne v624 v2
  let v626 : BitVec 32 := Scalar.extui v625
  let c0_i32_463 : BitVec 32 := 0#32
  let v627 : BitVec 1 := Scalar.cmpi .ne v626 c0_i32_463
  v627

def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_461 : BitVec 32 := 4#32
  let v623 : BitVec 32 := Scalar.muli v607 c4_i32_461
  let c3_i32_462 : BitVec 32 := 3#32
  let v624 : BitVec 32 := Scalar.addi v623 c3_i32_462
  ![v624.toNat]
def k0_off66 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_461 : BitVec 32 := 4#32
  let v623 : BitVec 32 := Scalar.muli v607 c4_i32_461
  let c3_i32_462 : BitVec 32 := 3#32
  let v624 : BitVec 32 := Scalar.addi v623 c3_i32_462
  let c0_i32_569 : BitVec 32 := 0#32
  let c0_i32_570 : BitVec 32 := 0#32
  ![v624.toNat, 0, 0]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_461 : BitVec 32 := 4#32
  let v623 : BitVec 32 := Scalar.muli v607 c4_i32_461
  let c3_i32_462 : BitVec 32 := 3#32
  let v624 : BitVec 32 := Scalar.addi v623 c3_i32_462
  let v793 : Index := Scalar.indexCast v624
  let c0_573 : Index := 0#32
  let c0_574 : Index := 0#32
  ![v793.toNat, 0, 0]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_449 : BitVec 32 := 0#32
  let v605 : BitVec 32 := Scalar.subi v3 c0_i32_449
  let c4_i32_450 : BitVec 32 := 4#32
  let v606 : BitVec 32 := Scalar.addi v605 c4_i32_450
  let c4_i32_451 : BitVec 32 := 4#32
  let v607 : BitVec 32 := Scalar.remsi v606 c4_i32_451
  let c4_i32_461 : BitVec 32 := 4#32
  let v623 : BitVec 32 := Scalar.muli v607 c4_i32_461
  let c3_i32_462 : BitVec 32 := 3#32
  let v624 : BitVec 32 := Scalar.addi v623 c3_i32_462
  let c512_i32 : BitVec 32 := 512#32
  let v797 : BitVec 32 := Scalar.muli v624 c512_i32
  let v798 : Index := Scalar.indexCast v797
  let c0_575 : Index := 0#32
  ![v798.toNat, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_467 : BitVec 32 := 4#32
  let v631 : BitVec 32 := Scalar.muli v630 c4_i32_467
  let c0_i32_468 : BitVec 32 := 0#32
  let v632 : BitVec 32 := Scalar.addi v631 c0_i32_468
  let v633 : BitVec 1 := Scalar.cmpi .ne v632 v2
  let v634 : BitVec 32 := Scalar.extui v633
  let c0_i32_469 : BitVec 32 := 0#32
  let v635 : BitVec 1 := Scalar.cmpi .ne v634 c0_i32_469
  v635

def k0_off69 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_467 : BitVec 32 := 4#32
  let v631 : BitVec 32 := Scalar.muli v630 c4_i32_467
  let c0_i32_468 : BitVec 32 := 0#32
  let v632 : BitVec 32 := Scalar.addi v631 c0_i32_468
  ![v632.toNat]
def k0_off70 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_467 : BitVec 32 := 4#32
  let v631 : BitVec 32 := Scalar.muli v630 c4_i32_467
  let c0_i32_468 : BitVec 32 := 0#32
  let v632 : BitVec 32 := Scalar.addi v631 c0_i32_468
  let c0_i32_569 : BitVec 32 := 0#32
  let c0_i32_570 : BitVec 32 := 0#32
  ![v632.toNat, 0, 0]
def k0_off71 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_467 : BitVec 32 := 4#32
  let v631 : BitVec 32 := Scalar.muli v630 c4_i32_467
  let c0_i32_468 : BitVec 32 := 0#32
  let v632 : BitVec 32 := Scalar.addi v631 c0_i32_468
  let v793 : Index := Scalar.indexCast v632
  let c0_573 : Index := 0#32
  let c0_574 : Index := 0#32
  ![v793.toNat, 0, 0]
def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_467 : BitVec 32 := 4#32
  let v631 : BitVec 32 := Scalar.muli v630 c4_i32_467
  let c0_i32_468 : BitVec 32 := 0#32
  let v632 : BitVec 32 := Scalar.addi v631 c0_i32_468
  let c512_i32 : BitVec 32 := 512#32
  let v797 : BitVec 32 := Scalar.muli v632 c512_i32
  let v798 : Index := Scalar.indexCast v797
  let c0_575 : Index := 0#32
  ![v798.toNat, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_470 : BitVec 32 := 4#32
  let v636 : BitVec 32 := Scalar.muli v630 c4_i32_470
  let c1_i32_471 : BitVec 32 := 1#32
  let v637 : BitVec 32 := Scalar.addi v636 c1_i32_471
  let v638 : BitVec 1 := Scalar.cmpi .ne v637 v2
  let v639 : BitVec 32 := Scalar.extui v638
  let c0_i32_472 : BitVec 32 := 0#32
  let v640 : BitVec 1 := Scalar.cmpi .ne v639 c0_i32_472
  v640

def k0_off73 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_470 : BitVec 32 := 4#32
  let v636 : BitVec 32 := Scalar.muli v630 c4_i32_470
  let c1_i32_471 : BitVec 32 := 1#32
  let v637 : BitVec 32 := Scalar.addi v636 c1_i32_471
  ![v637.toNat]
def k0_off74 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_470 : BitVec 32 := 4#32
  let v636 : BitVec 32 := Scalar.muli v630 c4_i32_470
  let c1_i32_471 : BitVec 32 := 1#32
  let v637 : BitVec 32 := Scalar.addi v636 c1_i32_471
  let c0_i32_569 : BitVec 32 := 0#32
  let c0_i32_570 : BitVec 32 := 0#32
  ![v637.toNat, 0, 0]
def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_470 : BitVec 32 := 4#32
  let v636 : BitVec 32 := Scalar.muli v630 c4_i32_470
  let c1_i32_471 : BitVec 32 := 1#32
  let v637 : BitVec 32 := Scalar.addi v636 c1_i32_471
  let v793 : Index := Scalar.indexCast v637
  let c0_573 : Index := 0#32
  let c0_574 : Index := 0#32
  ![v793.toNat, 0, 0]
def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_470 : BitVec 32 := 4#32
  let v636 : BitVec 32 := Scalar.muli v630 c4_i32_470
  let c1_i32_471 : BitVec 32 := 1#32
  let v637 : BitVec 32 := Scalar.addi v636 c1_i32_471
  let c512_i32 : BitVec 32 := 512#32
  let v797 : BitVec 32 := Scalar.muli v637 c512_i32
  let v798 : Index := Scalar.indexCast v797
  let c0_575 : Index := 0#32
  ![v798.toNat, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_473 : BitVec 32 := 4#32
  let v641 : BitVec 32 := Scalar.muli v630 c4_i32_473
  let c2_i32_474 : BitVec 32 := 2#32
  let v642 : BitVec 32 := Scalar.addi v641 c2_i32_474
  let v643 : BitVec 1 := Scalar.cmpi .ne v642 v2
  let v644 : BitVec 32 := Scalar.extui v643
  let c0_i32_475 : BitVec 32 := 0#32
  let v645 : BitVec 1 := Scalar.cmpi .ne v644 c0_i32_475
  v645

def k0_off77 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_473 : BitVec 32 := 4#32
  let v641 : BitVec 32 := Scalar.muli v630 c4_i32_473
  let c2_i32_474 : BitVec 32 := 2#32
  let v642 : BitVec 32 := Scalar.addi v641 c2_i32_474
  ![v642.toNat]
def k0_off78 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_473 : BitVec 32 := 4#32
  let v641 : BitVec 32 := Scalar.muli v630 c4_i32_473
  let c2_i32_474 : BitVec 32 := 2#32
  let v642 : BitVec 32 := Scalar.addi v641 c2_i32_474
  let c0_i32_569 : BitVec 32 := 0#32
  let c0_i32_570 : BitVec 32 := 0#32
  ![v642.toNat, 0, 0]
def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_473 : BitVec 32 := 4#32
  let v641 : BitVec 32 := Scalar.muli v630 c4_i32_473
  let c2_i32_474 : BitVec 32 := 2#32
  let v642 : BitVec 32 := Scalar.addi v641 c2_i32_474
  let v793 : Index := Scalar.indexCast v642
  let c0_573 : Index := 0#32
  let c0_574 : Index := 0#32
  ![v793.toNat, 0, 0]
def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_473 : BitVec 32 := 4#32
  let v641 : BitVec 32 := Scalar.muli v630 c4_i32_473
  let c2_i32_474 : BitVec 32 := 2#32
  let v642 : BitVec 32 := Scalar.addi v641 c2_i32_474
  let c512_i32 : BitVec 32 := 512#32
  let v797 : BitVec 32 := Scalar.muli v642 c512_i32
  let v798 : Index := Scalar.indexCast v797
  let c0_575 : Index := 0#32
  ![v798.toNat, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_476 : BitVec 32 := 4#32
  let v646 : BitVec 32 := Scalar.muli v630 c4_i32_476
  let c3_i32_477 : BitVec 32 := 3#32
  let v647 : BitVec 32 := Scalar.addi v646 c3_i32_477
  let v648 : BitVec 1 := Scalar.cmpi .ne v647 v2
  let v649 : BitVec 32 := Scalar.extui v648
  let c0_i32_478 : BitVec 32 := 0#32
  let v650 : BitVec 1 := Scalar.cmpi .ne v649 c0_i32_478
  v650

def k0_off81 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_476 : BitVec 32 := 4#32
  let v646 : BitVec 32 := Scalar.muli v630 c4_i32_476
  let c3_i32_477 : BitVec 32 := 3#32
  let v647 : BitVec 32 := Scalar.addi v646 c3_i32_477
  ![v647.toNat]
def k0_off82 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_476 : BitVec 32 := 4#32
  let v646 : BitVec 32 := Scalar.muli v630 c4_i32_476
  let c3_i32_477 : BitVec 32 := 3#32
  let v647 : BitVec 32 := Scalar.addi v646 c3_i32_477
  let c0_i32_569 : BitVec 32 := 0#32
  let c0_i32_570 : BitVec 32 := 0#32
  ![v647.toNat, 0, 0]
def k0_off83 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_476 : BitVec 32 := 4#32
  let v646 : BitVec 32 := Scalar.muli v630 c4_i32_476
  let c3_i32_477 : BitVec 32 := 3#32
  let v647 : BitVec 32 := Scalar.addi v646 c3_i32_477
  let v793 : Index := Scalar.indexCast v647
  let c0_573 : Index := 0#32
  let c0_574 : Index := 0#32
  ![v793.toNat, 0, 0]
def k0_off84 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_464 : BitVec 32 := 1#32
  let v628 : BitVec 32 := Scalar.subi v3 c1_i32_464
  let c4_i32_465 : BitVec 32 := 4#32
  let v629 : BitVec 32 := Scalar.addi v628 c4_i32_465
  let c4_i32_466 : BitVec 32 := 4#32
  let v630 : BitVec 32 := Scalar.remsi v629 c4_i32_466
  let c4_i32_476 : BitVec 32 := 4#32
  let v646 : BitVec 32 := Scalar.muli v630 c4_i32_476
  let c3_i32_477 : BitVec 32 := 3#32
  let v647 : BitVec 32 := Scalar.addi v646 c3_i32_477
  let c512_i32 : BitVec 32 := 512#32
  let v797 : BitVec 32 := Scalar.muli v647 c512_i32
  let v798 : Index := Scalar.indexCast v797
  let c0_575 : Index := 0#32
  ![v798.toNat, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_482 : BitVec 32 := 4#32
  let v654 : BitVec 32 := Scalar.muli v653 c4_i32_482
  let c0_i32_483 : BitVec 32 := 0#32
  let v655 : BitVec 32 := Scalar.addi v654 c0_i32_483
  let v656 : BitVec 1 := Scalar.cmpi .ne v655 v2
  let v657 : BitVec 32 := Scalar.extui v656
  let c0_i32_484 : BitVec 32 := 0#32
  let v658 : BitVec 1 := Scalar.cmpi .ne v657 c0_i32_484
  v658

def k0_off85 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_482 : BitVec 32 := 4#32
  let v654 : BitVec 32 := Scalar.muli v653 c4_i32_482
  let c0_i32_483 : BitVec 32 := 0#32
  let v655 : BitVec 32 := Scalar.addi v654 c0_i32_483
  ![v655.toNat]
def k0_off86 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_482 : BitVec 32 := 4#32
  let v654 : BitVec 32 := Scalar.muli v653 c4_i32_482
  let c0_i32_483 : BitVec 32 := 0#32
  let v655 : BitVec 32 := Scalar.addi v654 c0_i32_483
  let c0_i32_569 : BitVec 32 := 0#32
  let c0_i32_570 : BitVec 32 := 0#32
  ![v655.toNat, 0, 0]
def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_482 : BitVec 32 := 4#32
  let v654 : BitVec 32 := Scalar.muli v653 c4_i32_482
  let c0_i32_483 : BitVec 32 := 0#32
  let v655 : BitVec 32 := Scalar.addi v654 c0_i32_483
  let v793 : Index := Scalar.indexCast v655
  let c0_573 : Index := 0#32
  let c0_574 : Index := 0#32
  ![v793.toNat, 0, 0]
def k0_off88 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_482 : BitVec 32 := 4#32
  let v654 : BitVec 32 := Scalar.muli v653 c4_i32_482
  let c0_i32_483 : BitVec 32 := 0#32
  let v655 : BitVec 32 := Scalar.addi v654 c0_i32_483
  let c512_i32 : BitVec 32 := 512#32
  let v797 : BitVec 32 := Scalar.muli v655 c512_i32
  let v798 : Index := Scalar.indexCast v797
  let c0_575 : Index := 0#32
  ![v798.toNat, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_485 : BitVec 32 := 4#32
  let v659 : BitVec 32 := Scalar.muli v653 c4_i32_485
  let c1_i32_486 : BitVec 32 := 1#32
  let v660 : BitVec 32 := Scalar.addi v659 c1_i32_486
  let v661 : BitVec 1 := Scalar.cmpi .ne v660 v2
  let v662 : BitVec 32 := Scalar.extui v661
  let c0_i32_487 : BitVec 32 := 0#32
  let v663 : BitVec 1 := Scalar.cmpi .ne v662 c0_i32_487
  v663

def k0_off89 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_485 : BitVec 32 := 4#32
  let v659 : BitVec 32 := Scalar.muli v653 c4_i32_485
  let c1_i32_486 : BitVec 32 := 1#32
  let v660 : BitVec 32 := Scalar.addi v659 c1_i32_486
  ![v660.toNat]
def k0_off90 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_485 : BitVec 32 := 4#32
  let v659 : BitVec 32 := Scalar.muli v653 c4_i32_485
  let c1_i32_486 : BitVec 32 := 1#32
  let v660 : BitVec 32 := Scalar.addi v659 c1_i32_486
  let c0_i32_569 : BitVec 32 := 0#32
  let c0_i32_570 : BitVec 32 := 0#32
  ![v660.toNat, 0, 0]
def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_485 : BitVec 32 := 4#32
  let v659 : BitVec 32 := Scalar.muli v653 c4_i32_485
  let c1_i32_486 : BitVec 32 := 1#32
  let v660 : BitVec 32 := Scalar.addi v659 c1_i32_486
  let v793 : Index := Scalar.indexCast v660
  let c0_573 : Index := 0#32
  let c0_574 : Index := 0#32
  ![v793.toNat, 0, 0]
def k0_off92 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_485 : BitVec 32 := 4#32
  let v659 : BitVec 32 := Scalar.muli v653 c4_i32_485
  let c1_i32_486 : BitVec 32 := 1#32
  let v660 : BitVec 32 := Scalar.addi v659 c1_i32_486
  let c512_i32 : BitVec 32 := 512#32
  let v797 : BitVec 32 := Scalar.muli v660 c512_i32
  let v798 : Index := Scalar.indexCast v797
  let c0_575 : Index := 0#32
  ![v798.toNat, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_488 : BitVec 32 := 4#32
  let v664 : BitVec 32 := Scalar.muli v653 c4_i32_488
  let c2_i32_489 : BitVec 32 := 2#32
  let v665 : BitVec 32 := Scalar.addi v664 c2_i32_489
  let v666 : BitVec 1 := Scalar.cmpi .ne v665 v2
  let v667 : BitVec 32 := Scalar.extui v666
  let c0_i32_490 : BitVec 32 := 0#32
  let v668 : BitVec 1 := Scalar.cmpi .ne v667 c0_i32_490
  v668

def k0_off93 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_488 : BitVec 32 := 4#32
  let v664 : BitVec 32 := Scalar.muli v653 c4_i32_488
  let c2_i32_489 : BitVec 32 := 2#32
  let v665 : BitVec 32 := Scalar.addi v664 c2_i32_489
  ![v665.toNat]
def k0_off94 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_488 : BitVec 32 := 4#32
  let v664 : BitVec 32 := Scalar.muli v653 c4_i32_488
  let c2_i32_489 : BitVec 32 := 2#32
  let v665 : BitVec 32 := Scalar.addi v664 c2_i32_489
  let c0_i32_569 : BitVec 32 := 0#32
  let c0_i32_570 : BitVec 32 := 0#32
  ![v665.toNat, 0, 0]
def k0_off95 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_488 : BitVec 32 := 4#32
  let v664 : BitVec 32 := Scalar.muli v653 c4_i32_488
  let c2_i32_489 : BitVec 32 := 2#32
  let v665 : BitVec 32 := Scalar.addi v664 c2_i32_489
  let v793 : Index := Scalar.indexCast v665
  let c0_573 : Index := 0#32
  let c0_574 : Index := 0#32
  ![v793.toNat, 0, 0]
def k0_off96 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_488 : BitVec 32 := 4#32
  let v664 : BitVec 32 := Scalar.muli v653 c4_i32_488
  let c2_i32_489 : BitVec 32 := 2#32
  let v665 : BitVec 32 := Scalar.addi v664 c2_i32_489
  let c512_i32 : BitVec 32 := 512#32
  let v797 : BitVec 32 := Scalar.muli v665 c512_i32
  let v798 : Index := Scalar.indexCast v797
  let c0_575 : Index := 0#32
  ![v798.toNat, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_491 : BitVec 32 := 4#32
  let v669 : BitVec 32 := Scalar.muli v653 c4_i32_491
  let c3_i32_492 : BitVec 32 := 3#32
  let v670 : BitVec 32 := Scalar.addi v669 c3_i32_492
  let v671 : BitVec 1 := Scalar.cmpi .ne v670 v2
  let v672 : BitVec 32 := Scalar.extui v671
  let c0_i32_493 : BitVec 32 := 0#32
  let v673 : BitVec 1 := Scalar.cmpi .ne v672 c0_i32_493
  v673

def k0_off97 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_491 : BitVec 32 := 4#32
  let v669 : BitVec 32 := Scalar.muli v653 c4_i32_491
  let c3_i32_492 : BitVec 32 := 3#32
  let v670 : BitVec 32 := Scalar.addi v669 c3_i32_492
  ![v670.toNat]
def k0_off98 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_491 : BitVec 32 := 4#32
  let v669 : BitVec 32 := Scalar.muli v653 c4_i32_491
  let c3_i32_492 : BitVec 32 := 3#32
  let v670 : BitVec 32 := Scalar.addi v669 c3_i32_492
  let c0_i32_569 : BitVec 32 := 0#32
  let c0_i32_570 : BitVec 32 := 0#32
  ![v670.toNat, 0, 0]
def k0_off99 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_491 : BitVec 32 := 4#32
  let v669 : BitVec 32 := Scalar.muli v653 c4_i32_491
  let c3_i32_492 : BitVec 32 := 3#32
  let v670 : BitVec 32 := Scalar.addi v669 c3_i32_492
  let v793 : Index := Scalar.indexCast v670
  let c0_573 : Index := 0#32
  let c0_574 : Index := 0#32
  ![v793.toNat, 0, 0]
def k0_off100 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_479 : BitVec 32 := 2#32
  let v651 : BitVec 32 := Scalar.subi v3 c2_i32_479
  let c4_i32_480 : BitVec 32 := 4#32
  let v652 : BitVec 32 := Scalar.addi v651 c4_i32_480
  let c4_i32_481 : BitVec 32 := 4#32
  let v653 : BitVec 32 := Scalar.remsi v652 c4_i32_481
  let c4_i32_491 : BitVec 32 := 4#32
  let v669 : BitVec 32 := Scalar.muli v653 c4_i32_491
  let c3_i32_492 : BitVec 32 := 3#32
  let v670 : BitVec 32 := Scalar.addi v669 c3_i32_492
  let c512_i32 : BitVec 32 := 512#32
  let v797 : BitVec 32 := Scalar.muli v670 c512_i32
  let v798 : Index := Scalar.indexCast v797
  let c0_575 : Index := 0#32
  ![v798.toNat, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_497 : BitVec 32 := 4#32
  let v677 : BitVec 32 := Scalar.muli v676 c4_i32_497
  let c0_i32_498 : BitVec 32 := 0#32
  let v678 : BitVec 32 := Scalar.addi v677 c0_i32_498
  let v679 : BitVec 1 := Scalar.cmpi .ne v678 v2
  let v680 : BitVec 32 := Scalar.extui v679
  let c0_i32_499 : BitVec 32 := 0#32
  let v681 : BitVec 1 := Scalar.cmpi .ne v680 c0_i32_499
  v681

def k0_off101 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_497 : BitVec 32 := 4#32
  let v677 : BitVec 32 := Scalar.muli v676 c4_i32_497
  let c0_i32_498 : BitVec 32 := 0#32
  let v678 : BitVec 32 := Scalar.addi v677 c0_i32_498
  ![v678.toNat]
def k0_off102 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_497 : BitVec 32 := 4#32
  let v677 : BitVec 32 := Scalar.muli v676 c4_i32_497
  let c0_i32_498 : BitVec 32 := 0#32
  let v678 : BitVec 32 := Scalar.addi v677 c0_i32_498
  let c0_i32_569 : BitVec 32 := 0#32
  let c0_i32_570 : BitVec 32 := 0#32
  ![v678.toNat, 0, 0]
def k0_off103 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_497 : BitVec 32 := 4#32
  let v677 : BitVec 32 := Scalar.muli v676 c4_i32_497
  let c0_i32_498 : BitVec 32 := 0#32
  let v678 : BitVec 32 := Scalar.addi v677 c0_i32_498
  let v793 : Index := Scalar.indexCast v678
  let c0_573 : Index := 0#32
  let c0_574 : Index := 0#32
  ![v793.toNat, 0, 0]
def k0_off104 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_497 : BitVec 32 := 4#32
  let v677 : BitVec 32 := Scalar.muli v676 c4_i32_497
  let c0_i32_498 : BitVec 32 := 0#32
  let v678 : BitVec 32 := Scalar.addi v677 c0_i32_498
  let c512_i32 : BitVec 32 := 512#32
  let v797 : BitVec 32 := Scalar.muli v678 c512_i32
  let v798 : Index := Scalar.indexCast v797
  let c0_575 : Index := 0#32
  ![v798.toNat, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_500 : BitVec 32 := 4#32
  let v682 : BitVec 32 := Scalar.muli v676 c4_i32_500
  let c1_i32_501 : BitVec 32 := 1#32
  let v683 : BitVec 32 := Scalar.addi v682 c1_i32_501
  let v684 : BitVec 1 := Scalar.cmpi .ne v683 v2
  let v685 : BitVec 32 := Scalar.extui v684
  let c0_i32_502 : BitVec 32 := 0#32
  let v686 : BitVec 1 := Scalar.cmpi .ne v685 c0_i32_502
  v686

def k0_off105 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_500 : BitVec 32 := 4#32
  let v682 : BitVec 32 := Scalar.muli v676 c4_i32_500
  let c1_i32_501 : BitVec 32 := 1#32
  let v683 : BitVec 32 := Scalar.addi v682 c1_i32_501
  ![v683.toNat]
def k0_off106 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_500 : BitVec 32 := 4#32
  let v682 : BitVec 32 := Scalar.muli v676 c4_i32_500
  let c1_i32_501 : BitVec 32 := 1#32
  let v683 : BitVec 32 := Scalar.addi v682 c1_i32_501
  let c0_i32_569 : BitVec 32 := 0#32
  let c0_i32_570 : BitVec 32 := 0#32
  ![v683.toNat, 0, 0]
def k0_off107 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_500 : BitVec 32 := 4#32
  let v682 : BitVec 32 := Scalar.muli v676 c4_i32_500
  let c1_i32_501 : BitVec 32 := 1#32
  let v683 : BitVec 32 := Scalar.addi v682 c1_i32_501
  let v793 : Index := Scalar.indexCast v683
  let c0_573 : Index := 0#32
  let c0_574 : Index := 0#32
  ![v793.toNat, 0, 0]
def k0_off108 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_500 : BitVec 32 := 4#32
  let v682 : BitVec 32 := Scalar.muli v676 c4_i32_500
  let c1_i32_501 : BitVec 32 := 1#32
  let v683 : BitVec 32 := Scalar.addi v682 c1_i32_501
  let c512_i32 : BitVec 32 := 512#32
  let v797 : BitVec 32 := Scalar.muli v683 c512_i32
  let v798 : Index := Scalar.indexCast v797
  let c0_575 : Index := 0#32
  ![v798.toNat, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_503 : BitVec 32 := 4#32
  let v687 : BitVec 32 := Scalar.muli v676 c4_i32_503
  let c2_i32_504 : BitVec 32 := 2#32
  let v688 : BitVec 32 := Scalar.addi v687 c2_i32_504
  let v689 : BitVec 1 := Scalar.cmpi .ne v688 v2
  let v690 : BitVec 32 := Scalar.extui v689
  let c0_i32_505 : BitVec 32 := 0#32
  let v691 : BitVec 1 := Scalar.cmpi .ne v690 c0_i32_505
  v691

def k0_off109 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_503 : BitVec 32 := 4#32
  let v687 : BitVec 32 := Scalar.muli v676 c4_i32_503
  let c2_i32_504 : BitVec 32 := 2#32
  let v688 : BitVec 32 := Scalar.addi v687 c2_i32_504
  ![v688.toNat]
def k0_off110 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_503 : BitVec 32 := 4#32
  let v687 : BitVec 32 := Scalar.muli v676 c4_i32_503
  let c2_i32_504 : BitVec 32 := 2#32
  let v688 : BitVec 32 := Scalar.addi v687 c2_i32_504
  let c0_i32_569 : BitVec 32 := 0#32
  let c0_i32_570 : BitVec 32 := 0#32
  ![v688.toNat, 0, 0]
def k0_off111 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_503 : BitVec 32 := 4#32
  let v687 : BitVec 32 := Scalar.muli v676 c4_i32_503
  let c2_i32_504 : BitVec 32 := 2#32
  let v688 : BitVec 32 := Scalar.addi v687 c2_i32_504
  let v793 : Index := Scalar.indexCast v688
  let c0_573 : Index := 0#32
  let c0_574 : Index := 0#32
  ![v793.toNat, 0, 0]
def k0_off112 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_503 : BitVec 32 := 4#32
  let v687 : BitVec 32 := Scalar.muli v676 c4_i32_503
  let c2_i32_504 : BitVec 32 := 2#32
  let v688 : BitVec 32 := Scalar.addi v687 c2_i32_504
  let c512_i32 : BitVec 32 := 512#32
  let v797 : BitVec 32 := Scalar.muli v688 c512_i32
  let v798 : Index := Scalar.indexCast v797
  let c0_575 : Index := 0#32
  ![v798.toNat, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_506 : BitVec 32 := 4#32
  let v692 : BitVec 32 := Scalar.muli v676 c4_i32_506
  let c3_i32_507 : BitVec 32 := 3#32
  let v693 : BitVec 32 := Scalar.addi v692 c3_i32_507
  let v694 : BitVec 1 := Scalar.cmpi .ne v693 v2
  let v695 : BitVec 32 := Scalar.extui v694
  let c0_i32_508 : BitVec 32 := 0#32
  let v696 : BitVec 1 := Scalar.cmpi .ne v695 c0_i32_508
  v696

def k0_off113 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_506 : BitVec 32 := 4#32
  let v692 : BitVec 32 := Scalar.muli v676 c4_i32_506
  let c3_i32_507 : BitVec 32 := 3#32
  let v693 : BitVec 32 := Scalar.addi v692 c3_i32_507
  ![v693.toNat]
def k0_off114 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_506 : BitVec 32 := 4#32
  let v692 : BitVec 32 := Scalar.muli v676 c4_i32_506
  let c3_i32_507 : BitVec 32 := 3#32
  let v693 : BitVec 32 := Scalar.addi v692 c3_i32_507
  let c0_i32_569 : BitVec 32 := 0#32
  let c0_i32_570 : BitVec 32 := 0#32
  ![v693.toNat, 0, 0]
def k0_off115 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_506 : BitVec 32 := 4#32
  let v692 : BitVec 32 := Scalar.muli v676 c4_i32_506
  let c3_i32_507 : BitVec 32 := 3#32
  let v693 : BitVec 32 := Scalar.addi v692 c3_i32_507
  let v793 : Index := Scalar.indexCast v693
  let c0_573 : Index := 0#32
  let c0_574 : Index := 0#32
  ![v793.toNat, 0, 0]
def k0_off116 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_494 : BitVec 32 := 3#32
  let v674 : BitVec 32 := Scalar.subi v3 c3_i32_494
  let c4_i32_495 : BitVec 32 := 4#32
  let v675 : BitVec 32 := Scalar.addi v674 c4_i32_495
  let c4_i32_496 : BitVec 32 := 4#32
  let v676 : BitVec 32 := Scalar.remsi v675 c4_i32_496
  let c4_i32_506 : BitVec 32 := 4#32
  let v692 : BitVec 32 := Scalar.muli v676 c4_i32_506
  let c3_i32_507 : BitVec 32 := 3#32
  let v693 : BitVec 32 := Scalar.addi v692 c3_i32_507
  let c512_i32 : BitVec 32 := 512#32
  let v797 : BitVec 32 := Scalar.muli v693 c512_i32
  let v798 : Index := Scalar.indexCast v797
  let c0_575 : Index := 0#32
  ![v798.toNat, 0]
def k0_cond65 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_509 : BitVec 32 := 0#32
  let v697 : BitVec 32 := Scalar.addi v3 c0_i32_509
  let c4_i32_510 : BitVec 32 := 4#32
  let v698 : BitVec 32 := Scalar.remsi v697 c4_i32_510
  let c4_i32_511 : BitVec 32 := 4#32
  let v699 : BitVec 32 := Scalar.muli v698 c4_i32_511
  let c0_i32_512 : BitVec 32 := 0#32
  let v700 : BitVec 32 := Scalar.addi v699 c0_i32_512
  let v701 : BitVec 1 := Scalar.cmpi .ne v700 v2
  let v702 : BitVec 32 := Scalar.extui v701
  let c0_i32_513 : BitVec 32 := 0#32
  let v703 : BitVec 1 := Scalar.cmpi .ne v702 c0_i32_513
  v703

def k0_off117 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_509 : BitVec 32 := 0#32
  let v697 : BitVec 32 := Scalar.addi v3 c0_i32_509
  let c4_i32_510 : BitVec 32 := 4#32
  let v698 : BitVec 32 := Scalar.remsi v697 c4_i32_510
  let c4_i32_514 : BitVec 32 := 4#32
  let v704 : BitVec 32 := Scalar.muli v698 c4_i32_514
  let c1_i32_515 : BitVec 32 := 1#32
  let v705 : BitVec 32 := Scalar.addi v704 c1_i32_515
  let v706 : BitVec 1 := Scalar.cmpi .ne v705 v2
  let v707 : BitVec 32 := Scalar.extui v706
  let c0_i32_516 : BitVec 32 := 0#32
  let v708 : BitVec 1 := Scalar.cmpi .ne v707 c0_i32_516
  v708

def k0_off118 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_509 : BitVec 32 := 0#32
  let v697 : BitVec 32 := Scalar.addi v3 c0_i32_509
  let c4_i32_510 : BitVec 32 := 4#32
  let v698 : BitVec 32 := Scalar.remsi v697 c4_i32_510
  let c4_i32_517 : BitVec 32 := 4#32
  let v709 : BitVec 32 := Scalar.muli v698 c4_i32_517
  let c2_i32_518 : BitVec 32 := 2#32
  let v710 : BitVec 32 := Scalar.addi v709 c2_i32_518
  let v711 : BitVec 1 := Scalar.cmpi .ne v710 v2
  let v712 : BitVec 32 := Scalar.extui v711
  let c0_i32_519 : BitVec 32 := 0#32
  let v713 : BitVec 1 := Scalar.cmpi .ne v712 c0_i32_519
  v713

def k0_off119 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c0_i32_509 : BitVec 32 := 0#32
  let v697 : BitVec 32 := Scalar.addi v3 c0_i32_509
  let c4_i32_510 : BitVec 32 := 4#32
  let v698 : BitVec 32 := Scalar.remsi v697 c4_i32_510
  let c4_i32_520 : BitVec 32 := 4#32
  let v714 : BitVec 32 := Scalar.muli v698 c4_i32_520
  let c3_i32_521 : BitVec 32 := 3#32
  let v715 : BitVec 32 := Scalar.addi v714 c3_i32_521
  let v716 : BitVec 1 := Scalar.cmpi .ne v715 v2
  let v717 : BitVec 32 := Scalar.extui v716
  let c0_i32_522 : BitVec 32 := 0#32
  let v718 : BitVec 1 := Scalar.cmpi .ne v717 c0_i32_522
  v718

def k0_off120 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_523 : BitVec 32 := 1#32
  let v719 : BitVec 32 := Scalar.addi v3 c1_i32_523
  let c4_i32_524 : BitVec 32 := 4#32
  let v720 : BitVec 32 := Scalar.remsi v719 c4_i32_524
  let c4_i32_525 : BitVec 32 := 4#32
  let v721 : BitVec 32 := Scalar.muli v720 c4_i32_525
  let c0_i32_526 : BitVec 32 := 0#32
  let v722 : BitVec 32 := Scalar.addi v721 c0_i32_526
  let v723 : BitVec 1 := Scalar.cmpi .ne v722 v2
  let v724 : BitVec 32 := Scalar.extui v723
  let c0_i32_527 : BitVec 32 := 0#32
  let v725 : BitVec 1 := Scalar.cmpi .ne v724 c0_i32_527
  v725

def k0_off121 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_523 : BitVec 32 := 1#32
  let v719 : BitVec 32 := Scalar.addi v3 c1_i32_523
  let c4_i32_524 : BitVec 32 := 4#32
  let v720 : BitVec 32 := Scalar.remsi v719 c4_i32_524
  let c4_i32_528 : BitVec 32 := 4#32
  let v726 : BitVec 32 := Scalar.muli v720 c4_i32_528
  let c1_i32_529 : BitVec 32 := 1#32
  let v727 : BitVec 32 := Scalar.addi v726 c1_i32_529
  let v728 : BitVec 1 := Scalar.cmpi .ne v727 v2
  let v729 : BitVec 32 := Scalar.extui v728
  let c0_i32_530 : BitVec 32 := 0#32
  let v730 : BitVec 1 := Scalar.cmpi .ne v729 c0_i32_530
  v730

def k0_off122 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_523 : BitVec 32 := 1#32
  let v719 : BitVec 32 := Scalar.addi v3 c1_i32_523
  let c4_i32_524 : BitVec 32 := 4#32
  let v720 : BitVec 32 := Scalar.remsi v719 c4_i32_524
  let c4_i32_531 : BitVec 32 := 4#32
  let v731 : BitVec 32 := Scalar.muli v720 c4_i32_531
  let c2_i32_532 : BitVec 32 := 2#32
  let v732 : BitVec 32 := Scalar.addi v731 c2_i32_532
  let v733 : BitVec 1 := Scalar.cmpi .ne v732 v2
  let v734 : BitVec 32 := Scalar.extui v733
  let c0_i32_533 : BitVec 32 := 0#32
  let v735 : BitVec 1 := Scalar.cmpi .ne v734 c0_i32_533
  v735

def k0_off123 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c1_i32_523 : BitVec 32 := 1#32
  let v719 : BitVec 32 := Scalar.addi v3 c1_i32_523
  let c4_i32_524 : BitVec 32 := 4#32
  let v720 : BitVec 32 := Scalar.remsi v719 c4_i32_524
  let c4_i32_534 : BitVec 32 := 4#32
  let v736 : BitVec 32 := Scalar.muli v720 c4_i32_534
  let c3_i32_535 : BitVec 32 := 3#32
  let v737 : BitVec 32 := Scalar.addi v736 c3_i32_535
  let v738 : BitVec 1 := Scalar.cmpi .ne v737 v2
  let v739 : BitVec 32 := Scalar.extui v738
  let c0_i32_536 : BitVec 32 := 0#32
  let v740 : BitVec 1 := Scalar.cmpi .ne v739 c0_i32_536
  v740

def k0_off124 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_537 : BitVec 32 := 2#32
  let v741 : BitVec 32 := Scalar.addi v3 c2_i32_537
  let c4_i32_538 : BitVec 32 := 4#32
  let v742 : BitVec 32 := Scalar.remsi v741 c4_i32_538
  let c4_i32_539 : BitVec 32 := 4#32
  let v743 : BitVec 32 := Scalar.muli v742 c4_i32_539
  let c0_i32_540 : BitVec 32 := 0#32
  let v744 : BitVec 32 := Scalar.addi v743 c0_i32_540
  let v745 : BitVec 1 := Scalar.cmpi .ne v744 v2
  let v746 : BitVec 32 := Scalar.extui v745
  let c0_i32_541 : BitVec 32 := 0#32
  let v747 : BitVec 1 := Scalar.cmpi .ne v746 c0_i32_541
  v747

def k0_off125 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_537 : BitVec 32 := 2#32
  let v741 : BitVec 32 := Scalar.addi v3 c2_i32_537
  let c4_i32_538 : BitVec 32 := 4#32
  let v742 : BitVec 32 := Scalar.remsi v741 c4_i32_538
  let c4_i32_542 : BitVec 32 := 4#32
  let v748 : BitVec 32 := Scalar.muli v742 c4_i32_542
  let c1_i32_543 : BitVec 32 := 1#32
  let v749 : BitVec 32 := Scalar.addi v748 c1_i32_543
  let v750 : BitVec 1 := Scalar.cmpi .ne v749 v2
  let v751 : BitVec 32 := Scalar.extui v750
  let c0_i32_544 : BitVec 32 := 0#32
  let v752 : BitVec 1 := Scalar.cmpi .ne v751 c0_i32_544
  v752

def k0_off126 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_537 : BitVec 32 := 2#32
  let v741 : BitVec 32 := Scalar.addi v3 c2_i32_537
  let c4_i32_538 : BitVec 32 := 4#32
  let v742 : BitVec 32 := Scalar.remsi v741 c4_i32_538
  let c4_i32_545 : BitVec 32 := 4#32
  let v753 : BitVec 32 := Scalar.muli v742 c4_i32_545
  let c2_i32_546 : BitVec 32 := 2#32
  let v754 : BitVec 32 := Scalar.addi v753 c2_i32_546
  let v755 : BitVec 1 := Scalar.cmpi .ne v754 v2
  let v756 : BitVec 32 := Scalar.extui v755
  let c0_i32_547 : BitVec 32 := 0#32
  let v757 : BitVec 1 := Scalar.cmpi .ne v756 c0_i32_547
  v757

def k0_off127 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c2_i32_537 : BitVec 32 := 2#32
  let v741 : BitVec 32 := Scalar.addi v3 c2_i32_537
  let c4_i32_538 : BitVec 32 := 4#32
  let v742 : BitVec 32 := Scalar.remsi v741 c4_i32_538
  let c4_i32_548 : BitVec 32 := 4#32
  let v758 : BitVec 32 := Scalar.muli v742 c4_i32_548
  let c3_i32_549 : BitVec 32 := 3#32
  let v759 : BitVec 32 := Scalar.addi v758 c3_i32_549
  let v760 : BitVec 1 := Scalar.cmpi .ne v759 v2
  let v761 : BitVec 32 := Scalar.extui v760
  let c0_i32_550 : BitVec 32 := 0#32
  let v762 : BitVec 1 := Scalar.cmpi .ne v761 c0_i32_550
  v762

def k0_off128 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_551 : BitVec 32 := 3#32
  let v763 : BitVec 32 := Scalar.addi v3 c3_i32_551
  let c4_i32_552 : BitVec 32 := 4#32
  let v764 : BitVec 32 := Scalar.remsi v763 c4_i32_552
  let c4_i32_553 : BitVec 32 := 4#32
  let v765 : BitVec 32 := Scalar.muli v764 c4_i32_553
  let c0_i32_554 : BitVec 32 := 0#32
  let v766 : BitVec 32 := Scalar.addi v765 c0_i32_554
  let v767 : BitVec 1 := Scalar.cmpi .ne v766 v2
  let v768 : BitVec 32 := Scalar.extui v767
  let c0_i32_555 : BitVec 32 := 0#32
  let v769 : BitVec 1 := Scalar.cmpi .ne v768 c0_i32_555
  v769

def k0_off129 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_551 : BitVec 32 := 3#32
  let v763 : BitVec 32 := Scalar.addi v3 c3_i32_551
  let c4_i32_552 : BitVec 32 := 4#32
  let v764 : BitVec 32 := Scalar.remsi v763 c4_i32_552
  let c4_i32_556 : BitVec 32 := 4#32
  let v770 : BitVec 32 := Scalar.muli v764 c4_i32_556
  let c1_i32_557 : BitVec 32 := 1#32
  let v771 : BitVec 32 := Scalar.addi v770 c1_i32_557
  let v772 : BitVec 1 := Scalar.cmpi .ne v771 v2
  let v773 : BitVec 32 := Scalar.extui v772
  let c0_i32_558 : BitVec 32 := 0#32
  let v774 : BitVec 1 := Scalar.cmpi .ne v773 c0_i32_558
  v774

def k0_off130 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_551 : BitVec 32 := 3#32
  let v763 : BitVec 32 := Scalar.addi v3 c3_i32_551
  let c4_i32_552 : BitVec 32 := 4#32
  let v764 : BitVec 32 := Scalar.remsi v763 c4_i32_552
  let c4_i32_559 : BitVec 32 := 4#32
  let v775 : BitVec 32 := Scalar.muli v764 c4_i32_559
  let c2_i32_560 : BitVec 32 := 2#32
  let v776 : BitVec 32 := Scalar.addi v775 c2_i32_560
  let v777 : BitVec 1 := Scalar.cmpi .ne v776 v2
  let v778 : BitVec 32 := Scalar.extui v777
  let c0_i32_561 : BitVec 32 := 0#32
  let v779 : BitVec 1 := Scalar.cmpi .ne v778 c0_i32_561
  v779

def k0_off131 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.divsi v2 c4_i32
  let c3_i32_551 : BitVec 32 := 3#32
  let v763 : BitVec 32 := Scalar.addi v3 c3_i32_551
  let c4_i32_552 : BitVec 32 := 4#32
  let v764 : BitVec 32 := Scalar.remsi v763 c4_i32_552
  let c4_i32_562 : BitVec 32 := 4#32
  let v780 : BitVec 32 := Scalar.muli v764 c4_i32_562
  let c3_i32_563 : BitVec 32 := 3#32
  let v781 : BitVec 32 := Scalar.addi v780 c3_i32_563
  let v782 : BitVec 1 := Scalar.cmpi .ne v781 v2
  let v783 : BitVec 32 := Scalar.extui v782
  let c0_i32_564 : BitVec 32 := 0#32
  let v784 : BitVec 1 := Scalar.cmpi .ne v783 c0_i32_564
  v784

def k0_off132 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_570 : BitVec 32 := 0#32
  let c0_i32_571 : BitVec 32 := 0#32
  ![v2.toNat, 0, 0]
abbrev stage0_0 : Fin 1 → Memref sig .tc .vmem S512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x8192, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Proto.lean ====
/-
# The exchange's protocol

Sixteen devices compute the tiles of one product and send every tile to the device that owns its columns. This
module states what the devices promise each other, under the rounds library: the semaphore cells, the duties of
each cell, what each duty hands over, what each device owes when it starts and the levels the waits are ordered by.

A device has one barrier cell, sixteen send cells (one for each of its outgoing tiles) and sixteen receive cells
(one for each sending device). Each cell has one round:
* the barrier cell of `c` has a duty for every other device `d`; `d` pays it with its own landing slot `c`;
* the send cell `s` of `c` has one duty if tile `s` leaves the device; it hands the outgoing slot `s` back;
* the receive cell `s` of `c` has one duty if `s` is another device; it hands over landing slot `s` holding the tile.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the exchange's rounds (duties named by devices), local transfers' counters -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Who sends to whom -/

/-- The `k`-th column group device `c` computes. -/
def gOf (c : Dev nD) (k : Fin 4) : Fin 4 := ⟨(c.val / 4 + k.val) % 4, Nat.mod_lt _ (by decide)⟩
/-- The owner of the tile at place `s` of device `c`'s order of sending. -/
def dest (c s : Dev nD) : Dev nD := ⟨4 * ((c.val / 4 + s.val / 4) % 4) + s.val % 4, by have := Nat.mod_lt (c.val / 4 + s.val / 4) (show 0 < 4 by decide); have := Nat.mod_lt s.val (show 0 < 4 by decide); show _ < 16; omega⟩
/-- The place of device `d`'s tile in device `c`'s order of sending. -/
def place (c d : Dev nD) : Dev nD := ⟨4 * ((d.val / 4 + 4 - c.val / 4) % 4) + d.val % 4, by have := Nat.mod_lt (d.val / 4 + 4 - c.val / 4) (show 0 < 4 by decide); have := Nat.mod_lt d.val (show 0 < 4 by decide); show _ < 16; omega⟩
/-- The sender at place `r` of device `c`'s order of receiving. -/
def srcOf (c r : Dev nD) : Dev nD := ⟨4 * ((c.val / 4 + 4 - r.val / 4) % 4) + r.val % 4, by have := Nat.mod_lt (c.val / 4 + 4 - r.val / 4) (show 0 < 4 by decide); have := Nat.mod_lt r.val (show 0 < 4 by decide); show _ < 16; omega⟩

theorem place_dest (c s : Dev nD) : place c (dest c s) = s := by
  have hc := c.isLt; have hs := s.isLt; refine Fin.ext ?_; simp only [place, dest]; revert hc hs; show _ < 16 → _ < 16 → _; omega
theorem dest_place (c d : Dev nD) : dest c (place c d) = d := by
  have hc := c.isLt; have hs := d.isLt; refine Fin.ext ?_; simp only [place, dest]; revert hc hs; show _ < 16 → _ < 16 → _; omega
theorem srcOf_srcOf (c r : Dev nD) : srcOf c (srcOf c r) = r := by
  have hc := c.isLt; have hs := r.isLt; refine Fin.ext ?_; simp only [srcOf]; revert hc hs; show _ < 16 → _ < 16 → _; omega
def destE (c : Dev nD) : Dev nD ≃ Dev nD := ⟨dest c, place c, place_dest c, dest_place c⟩
def srcE (c : Dev nD) : Dev nD ≃ Dev nD := ⟨srcOf c, srcOf c, srcOf_srcOf c, srcOf_srcOf c⟩

/-! ## The semaphores and the cells -/

/-- The cells of a device: its barrier, its send cells, its receive cells. -/
abbrev CI : Type := Unit ⊕ (Dev nD ⊕ Dev nD)

abbrev barS : Sem sig := (SemArray.scalar (sig.barrier 0 rfl) : Sems sig S_).sem
def lSem (i : Fin 2) : DmaSem sig := ⟨2 + i.val, by show _ < 36; omega⟩
def sSem (s : Dev nD) : DmaSem sig := ⟨4 + s.val, by have := s.isLt; show _ < 36; have : s.val < 16 := s.isLt; omega⟩
def rSem (s : Dev nD) : DmaSem sig := ⟨20 + s.val, by have : s.val < 16 := s.isLt; show _ < 36; omega⟩

def csem : CI → SemLoc sig
  | .inl _ => .reg barS
  | .inr (.inl s) => .dma (sSem s)
  | .inr (.inr s) => .dma (rSem s)

abbrev barCell (c : Dev nD) : GSem nD τ sig := ((c : Thread nD τ), .reg barS)
abbrev sendCell (c s : Dev nD) : GSem nD τ sig := ((c : Thread nD τ), .dma (sSem s))
abbrev recvCell (c s : Dev nD) : GSem nD τ sig := ((c : Thread nD τ), .dma (rSem s))
abbrev kcell (x : Dev nD × CI) : GSem nD τ sig := ((x.1 : Thread nD τ), csem x.2)

/-- Which cell of its device a semaphore is. -/
def kind : SemLoc sig → Option CI
  | .reg _ => some (.inl ())
  | .dma q => if q.val < 4 then none
      else if h : q.val < 20 then some (.inr (.inl ⟨q.val - 4, by show _ < 16; omega⟩))
      else some (.inr (.inr ⟨q.val - 20, by have : q.val < 36 := q.isLt; show _ < 16; omega⟩))

theorem kind_bar : kind (.reg barS) = some (.inl ()) := rfl
theorem kind_send (s : Dev nD) : kind (.dma (sSem s)) = some (.inr (.inl s)) := by
  have hs : s.val < 16 := s.isLt
  have h1 : ¬ (4 + s.val < 4) := by omega
  have h2 : 4 + s.val < 20 := by omega
  unfold kind sSem
  dsimp only
  rw [if_neg h1, dif_pos h2]
  exact congrArg (fun z => some (Sum.inr (Sum.inl z))) (Fin.ext (by show 4 + s.val - 4 = s.val; omega))
theorem kind_recv (s : Dev nD) : kind (.dma (rSem s)) = some (.inr (.inr s)) := by
  have hs : s.val < 16 := s.isLt
  have h1 : ¬ (20 + s.val < 4) := by omega
  have h2 : ¬ (20 + s.val < 20) := by omega
  unfold kind rSem
  dsimp only
  rw [if_neg h1, dif_neg h2]
  exact congrArg (fun z => some (Sum.inr (Sum.inr z))) (Fin.ext (by show 20 + s.val - 20 = s.val; omega))
theorem kind_csem (i : CI) : kind (csem i) = some i := by
  rcases i with _ | s | s
  · exact kind_bar
  · exact kind_send s
  · exact kind_recv s
theorem csem_injective : Function.Injective csem := fun i j h => by
  have := congrArg kind h; rw [kind_csem, kind_csem] at this; exact Option.some.inj this
theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-! ## The slots of the buffers -/

theorem inb3 (b : Dev nD) : ∀ a, (![b.val, 0, 0] : Fin 3 → ℕ) a + S1x512x256.size a ≤ S16x512x256.size a := by
  have hb : b.val < 16 := b.isLt
  intro a; fin_cases a
  · show b.val + 1 ≤ 16; omega
  · exact Nat.le_refl _
  · exact Nat.le_refl _
abbrev r3 (b : Dev nD) : Rect S16x512x256 := Rect.unit ![b.val, 0, 0] S1x512x256.size (inb3 b)

/-- Outgoing slot `s`. -/
abbrev ySl (s : Dev nD) : Memref sig .tc .vmem S512x256 .bf16 :=
  ((Memref.whole cc0_scratch1).slice (r3 s) (fun _ => rfl)).squeeze S512x256 squeezes_S1x512x256_S512x256
/-- Landing slot `b`. -/
abbrev rSl (b : Dev nD) : Memref sig .tc .vmem S512x256 .bf16 :=
  ((Memref.whole cc0_scratch2).slice (r3 b) (fun _ => rfl)).squeeze S512x256 squeezes_S1x512x256_S512x256

abbrev N : ℕ := (rSl 0).view.dmaCredit
theorem N_pos : 0 < N := View.dmaCredit_pos _ (by decide)

def ySlot (c s : Dev nD) (f : Buf (Elt F) ((ySl s).view.loc (c : Thread nD τ))) : sProp 𝕄 :=
  (ySl s).view.loc (c : Thread nD τ) ↦[(ySl s).view.set]{fullShare} f
def rSlot (c b : Dev nD) (f : Buf (Elt F) ((rSl b).view.loc (c : Thread nD τ))) : sProp 𝕄 :=
  (rSl b).view.loc (c : Thread nD τ) ↦[(rSl b).view.set]{fullShare} f
def yAny (c s : Dev nD) : sProp 𝕄 := iprop(∃ f, ySlot c s f)
def rAny (c b : Dev nD) : sProp 𝕄 := iprop(∃ f, rSlot c b f)

/-! ## Contents -/

/-- What the first window's buffer holds on device `c`: the device's rows. -/
def xstg (c : Dev nD) : (cc0_stg0_0 : Ref sig .tc).ty.Contents (Elt F) :=
  (win0_0.blk (0 : Fin 1)).view.read (Elt F) ((s₀ m ρ).mem ((c : Thread nD τ).loc main_arg0))

theorem inbx (k : Fin 4) : ∀ a, (![0, 2048 * k.val] : Fin 2 → ℕ) a + S512x2048.size a ≤ S512x8192.size a := by
  have hk := k.isLt
  intro a; fin_cases a
  · exact Nat.le_refl _
  · show 2048 * k.val + 2048 ≤ 8192; omega
abbrev rx (k : Fin 4) : Rect S512x8192 := Rect.unit ![0, 2048 * k.val] S512x2048.size (inbx k)
theorem inbw (k g : Fin 4) : ∀ a, (![2048 * k.val, 1024 * g.val] : Fin 2 → ℕ) a + S2048x1024.size a ≤ S8192x4096.size a := by
  have hk := k.isLt; have hg := g.isLt
  intro a; fin_cases a
  · show 2048 * k.val + 2048 ≤ 8192; omega
  · show 1024 * g.val + 1024 ≤ 4096; omega
abbrev rw' (k g : Fin 4) : Rect S8192x4096 := Rect.unit ![2048 * k.val, 1024 * g.val] S2048x1024.size (inbw k g)
theorem inbs (i : Fin 2) : ∀ a, (![i.val, 0, 0] : Fin 3 → ℕ) a + S1x2048x1024.size a ≤ S2x2048x1024.size a := by
  have hi := i.isLt
  intro a; fin_cases a
  · show i.val + 1 ≤ 2; omega
  · exact Nat.le_refl _
  · exact Nat.le_refl _
abbrev rs (i : Fin 2) : Rect S2x2048x1024 := Rect.unit ![i.val, 0, 0] S1x2048x1024.size (inbs i)

/-- Piece `k` of device `c`'s rows. -/
def xv (c : Dev nD) (k : Fin 4) : S512x2048.Idx → Elt F .bf16 := ((View.whole cc0_stg0_0).slice (rx k)).read (Elt F) (xstg m ρ c)
/-- Piece `k` of column group `g` of the second argument, as its slot holds it. -/
def wv (c : Dev nD) (k g : Fin 4) : S1x2048x1024.Idx → Elt F .bf16 := fun x =>
  ((View.whole main_arg1).slice (rw' k g)).read (Elt F) (m ((c : Thread nD τ).loc main_arg1))
    ((Shape.reshapeEquiv squeezes_S1x2048x1024_S2048x1024.numel_eq).symm x)

/-- The tiles of column group `g` on device `c`, after the activation. -/
def yFull (c : Dev nD) (g : Fin 4) : FVec F S512x1024 .f32 :=
  k0_pay4 (k0_pay3 (k0_pay2 (k0_pay1 (xv m ρ c 0) (wv m c 0 g)) (xv m ρ c 1) (wv m c 1 g)) (xv m ρ c 2) (wv m c 2 g)) (xv m ρ c 3) (wv m c 3 g)

/-- Tile `t` of a group. -/
def tile (Y : FVec F S512x1024 .f32) : Fin 4 → FVec F S512x256 .f32
  | 0 => extractStridedSlice S512x256 ![0, 0] Y slices_S512x1024_o0_0_S512x256
  | 1 => extractStridedSlice S512x256 ![0, 256] Y slices_S512x1024_o0_256_S512x256
  | 2 => extractStridedSlice S512x256 ![0, 512] Y slices_S512x1024_o0_512_S512x256
  | 3 => extractStridedSlice S512x256 ![0, 768] Y slices_S512x1024_o0_768_S512x256

def hi (d : Dev nD) : Fin 4 := ⟨d.val / 4, by have : d.val < 16 := d.isLt; omega⟩
def lo (d : Dev nD) : Fin 4 := ⟨d.val % 4, Nat.mod_lt _ (by decide)⟩
/-- Device `c`'s tile for device `d`. -/
def tileFor (c d : Dev nD) : FVec F S512x256 .f32 := tile (yFull m ρ c (hi d)) (lo d)
theorem tileFor_dest (c s : Dev nD) : tileFor m ρ c (dest c s) = tile (yFull m ρ c (gOf c (hi s))) (lo s) := by
  have hs : s.val < 16 := s.isLt
  have h1 : hi (dest c s) = gOf c (hi s) := Fin.ext (by simp only [hi, dest, gOf]; omega)
  have h2 : lo (dest c s) = lo s := Fin.ext (by simp only [lo, dest]; omega)
  unfold tileFor; rw [h1, h2]
/-- What device `s` sends device `c`, as its slot holds it. -/
def sent (s c : Dev nD) : FVec F S1x512x256 .bf16 := k0_pay6 (tileFor m ρ s c)
/-- Block `s` of device `c`'s result. -/
def outBlk (c s : Dev nD) : FVec F S512x256 .f32 := if s = c then tileFor m ρ c c else k0_pay53 (sent m ρ s c)

/-! ## The schedule -/

def recvPay (c s : Dev nD) : sProp 𝕄 :=
  iprop(∃ f, ⌜((View.whole cc0_scratch2).slice (r3 s)).read (Elt F) f = sent m ρ s c⌝ ∗ rSlot c s f)

def dutiesAt (c : Dev nD) : Option CI → Finset (Dev nD)
  | some (.inl _) => Finset.univ.erase c
  | some (.inr (.inl s)) => if dest c s = c then ∅ else {0}
  | some (.inr (.inr s)) => if s = c then ∅ else {0}
  | none => ∅
def amountAt : Option CI → ℕ
  | some (.inl _) => 1
  | _ => N
def payloadAt (c : Dev nD) (d : Dev nD) : Option CI → sProp 𝕄
  | some (.inl _) => rAny d c
  | some (.inr (.inl s)) => yAny c s
  | some (.inr (.inr s)) => recvPay m ρ c s
  | none => iprop(emp)

def Rd : Rounds.Schedule (GSem nD τ sig) (Dev nD) 𝕄 where
  duties g r := if r = 0 ∧ g.1.2 = .tc then dutiesAt g.1.1 (kind g.2) else ∅
  unitless _ := False
  amount g _ _ := amountAt (kind g.2)
  payload g _ d := payloadAt m ρ g.1.1 d (kind g.2)
  amount_pos g _ _ _ := by
    unfold amountAt
    split
    · exact Nat.one_pos
    · exact N_pos

instance Rd_storable (g : GSem nD τ sig) (r : ℕ) (d : Dev nD) : BI.Storable (upEmb : UEmb _ 𝕄) ((Rd (F := F) m ρ).payload g r d) := by
  show BI.Storable upEmb (payloadAt m ρ g.1.1 d (kind g.2))
  unfold payloadAt rAny yAny recvPay ySlot rSlot
  split <;> infer_instance

section Sched
variable (c s d : Dev nD)
theorem duties_zero (sm : SemLoc sig) : (Rd (F := F) m ρ).duties ((c : Thread nD τ), sm) 0 = dutiesAt c (kind sm) := by
  show (if (0 : ℕ) = 0 ∧ ((c : Thread nD τ), sm).1.2 = Proc.tc then dutiesAt c (kind sm) else ∅) = _
  rw [if_pos ⟨rfl, rfl⟩]
theorem duties_bar : (Rd (F := F) m ρ).duties (barCell c) 0 = Finset.univ.erase c := duties_zero m ρ c _
theorem duties_send : (Rd (F := F) m ρ).duties (sendCell c s) 0 = if dest c s = c then ∅ else {0} := by
  refine (duties_zero m ρ c _).trans ?_; rw [kind_send]; rfl
theorem duties_recv : (Rd (F := F) m ρ).duties (recvCell c s) 0 = if s = c then ∅ else {0} := by
  refine (duties_zero m ρ c _).trans ?_; rw [kind_recv]; rfl
theorem duties_later (g : GSem nD τ sig) : ∀ r, 1 ≤ r → (Rd (F := F) m ρ).duties g r = ∅ :=
  fun r hr => if_neg fun h => by omega
theorem duties_none {g : GSem nD τ sig} (h : (Rd (F := F) m ρ).duties g 0 = ∅) : ∀ r, 0 ≤ r → (Rd (F := F) m ρ).duties g r = ∅ :=
  fun r _ => by
    rcases Nat.eq_zero_or_pos r with rfl | hr
    · exact h
    · exact duties_later m ρ g r hr
theorem amount_bar : (Rd (F := F) m ρ).amount (barCell c) 0 d = 1 := rfl
theorem amount_send : (Rd (F := F) m ρ).amount (sendCell c s) 0 d = N := by
  show amountAt (kind _) = N; rw [kind_send]; rfl
theorem amount_recv : (Rd (F := F) m ρ).amount (recvCell c s) 0 d = N := by
  show amountAt (kind _) = N; rw [kind_recv]; rfl
theorem payload_bar : (Rd (F := F) m ρ).payload (barCell c) 0 d = rAny d c := rfl
theorem payload_send : (Rd (F := F) m ρ).payload (sendCell c s) 0 d = yAny c s := by
  show payloadAt m ρ c d (kind _) = _; rw [kind_send]; rfl
theorem payload_recv : (Rd (F := F) m ρ).payload (recvCell c s) 0 d = recvPay m ρ c s := by
  show payloadAt m ρ c d (kind _) = _; rw [kind_recv]; rfl
theorem expect_bar : (Rd (F := F) m ρ).expect (barCell c) 0 = 15 := by
  unfold Schedule.expect Schedule.amountOf
  rw [duties_bar, Finset.sum_congr rfl fun d _ => amount_bar m ρ c d, Finset.sum_const, Finset.card_erase_of_mem (Finset.mem_univ _), Finset.card_univ, Fintype.card_fin, smul_eq_mul]
  rfl
theorem expect_send (h : dest c s ≠ c) : (Rd (F := F) m ρ).expect (sendCell c s) 0 = N := by
  unfold Schedule.expect Schedule.amountOf; rw [duties_send, if_neg h, Finset.sum_singleton, amount_send]
theorem expect_recv (h : s ≠ c) : (Rd (F := F) m ρ).expect (recvCell c s) 0 = N := by
  unfold Schedule.expect Schedule.amountOf; rw [duties_recv, if_neg h, Finset.sum_singleton, amount_recv]
theorem rest_bar : bigSep ((Rd (F := F) m ρ).duties (barCell c) 0 \ ∅) (fun d => (Rd (F := F) m ρ).payload (barCell c) 0 d)
    = bigSep (Finset.univ.erase c) fun d => rAny d c := by
  rw [Finset.sdiff_empty, duties_bar]; exact bigSep_congr fun d _ => payload_bar m ρ c d
theorem rest_send (h : dest c s ≠ c) : bigSep ((Rd (F := F) m ρ).duties (sendCell c s) 0 \ ∅) (fun d => (Rd (F := F) m ρ).payload (sendCell c s) 0 d)
    = yAny c s := by
  rw [Finset.sdiff_empty, duties_send, if_neg h, bigSep_singleton, payload_send]
theorem rest_recv (h : s ≠ c) : bigSep ((Rd (F := F) m ρ).duties (recvCell c s) 0 \ ∅) (fun d => (Rd (F := F) m ρ).payload (recvCell c s) 0 d)
    = recvPay m ρ c s := by
  rw [Finset.sdiff_empty, duties_recv, if_neg h, bigSep_singleton, payload_recv]
end Sched

/-! ## What a device owes; the levels -/

abbrev Ow : Type := CellTallies nD τ sig Unit

def barDue (c d : Dev nD) : Ow := if d = c then 0 else tallyAt (barCell d) () 1
def recvDue (c s : Dev nD) : Ow := if dest c s = c then 0 else tallyAt (recvCell (dest c s) c) () N
/-- The barrier units still owed before signal `n`. -/
def OB (c : Dev nD) (n : ℕ) : Ow := ∑ d ∈ Finset.univ.filter (fun d : Dev nD => n ≤ d.val), barDue c d
/-- The receive credits still owed before transfer `n`. -/
def OR (c : Dev nD) (n : ℕ) : Ow := ∑ s ∈ Finset.univ.filter (fun s : Dev nD => n ≤ s.val), recvDue c s

theorem filter_step (n : Dev nD) : (Finset.univ.filter fun d : Dev nD => n.val ≤ d.val) = insert n (Finset.univ.filter fun d : Dev nD => n.val + 1 ≤ d.val) := by
  ext d; simp only [Finset.mem_filter, Finset.mem_univ, true_and, Finset.mem_insert, Fin.ext_iff]; omega
theorem not_mem_filter (n : Dev nD) : n ∉ (Finset.univ.filter fun d : Dev nD => n.val + 1 ≤ d.val) := by
  simp
theorem OB_step (c n : Dev nD) : OB c n.val = OB c (n.val + 1) + barDue c n := by
  unfold OB; rw [filter_step, Finset.sum_insert (not_mem_filter n), add_comm]
theorem OR_step (c n : Dev nD) : OR c n.val = OR c (n.val + 1) + recvDue c n := by
  unfold OR; rw [filter_step, Finset.sum_insert (not_mem_filter n), add_comm]
theorem filter_16 : (Finset.univ.filter fun d : Dev nD => 16 ≤ d.val) = ∅ := by decide
theorem OB_16 (c : Dev nD) : OB c 16 = 0 := by unfold OB; rw [filter_16]; rfl
theorem OR_16 (c : Dev nD) : OR c 16 = 0 := by unfold OR; rw [filter_16]; rfl

def O₀ (c : Dev nD) : Ow := OR c 0 + OB c 0

def L (g : GSem nD τ sig) : Finset Unit := if g.1.2 = .tc then {()} else ∅
def lvAt : Option CI → ℕ
  | some (.inl _) => 1
  | some (.inr (.inr _)) => 2
  | _ => 0
/-- Barrier cells at 1, receive cells at 2, everything else at 0. -/
def lv (g : GSem nD τ sig) (_ : Unit) : ℕ := lvAt (kind g.2)
theorem L_of_ne (g : GSem nD τ sig) (h : g.1.2 ≠ .tc) : L g = ∅ := if_neg h
theorem L_tc (c : Dev nD) (sm : SemLoc sig) : L ((c : Thread nD τ), sm) = {()} := if_pos rfl

theorem recvDue_pos {c s : Dev nD} {g : GSem nD τ sig} {u : Unit} (h : 0 < recvDue c s g u) : g = recvCell (dest c s) c := by
  unfold recvDue at h
  split at h
  · exact absurd h (Nat.lt_irrefl 0)
  · rw [tallyAt_apply] at h
    by_contra hn
    rw [if_neg fun h' => hn h'.1] at h
    exact Nat.lt_irrefl 0 h
theorem barDue_pos {c d : Dev nD} {g : GSem nD τ sig} {u : Unit} (h : 0 < barDue c d g u) : g = barCell d := by
  unfold barDue at h
  split at h
  · exact absurd h (Nat.lt_irrefl 0)
  · rw [tallyAt_apply] at h
    by_contra hn
    rw [if_neg fun h' => hn h'.1] at h
    exact Nat.lt_irrefl 0 h
theorem sum_pos_of {I : Type} (S : Finset I) (D : I → Ow) {g : GSem nD τ sig} {u : Unit} (h : 0 < (∑ i ∈ S, D i) g u) : ∃ i ∈ S, 0 < D i g u := by
  classical
  by_contra hn
  rw [not_exists] at hn
  have : (∑ i ∈ S, D i) g u = 0 := by
    rw [Finset.sum_apply, Finsupp.finset_sum_apply]
    exact Finset.sum_eq_zero fun i hi => Nat.eq_zero_of_not_pos fun hp => hn i ⟨hi, hp⟩
  omega
theorem OR_pos {c : Dev nD} {n : ℕ} {g : GSem nD τ sig} {u : Unit} (h : 0 < OR c n g u) : ∃ d, g = recvCell d c := by
  obtain ⟨s, -, hs⟩ := sum_pos_of _ _ h
  exact ⟨_, recvDue_pos hs⟩
theorem OB_pos {c : Dev nD} {n : ℕ} {g : GSem nD τ sig} {u : Unit} (h : 0 < OB c n g u) : ∃ d, g = barCell d := by
  obtain ⟨s, -, hs⟩ := sum_pos_of _ _ h
  exact ⟨_, barDue_pos hs⟩
theorem O₀_pos {c : Dev nD} {g : GSem nD τ sig} {u : Unit} (h : 0 < O₀ c g u) : (∃ d, g = recvCell d c) ∨ ∃ d, g = barCell d := by
  unfold O₀ at h
  rw [Pi.add_apply, Finsupp.add_apply] at h
  rcases Nat.eq_zero_or_pos (OR c 0 g u) with h0 | h0
  · rw [h0, Nat.zero_add] at h; exact Or.inr (OB_pos h)
  · exact Or.inl (OR_pos h0)
theorem lv_recv (d c : Dev nD) (u : Unit) : lv (recvCell d c) u = 2 := by unfold lv; rw [kind_recv]; rfl
theorem lv_bar (d : Dev nD) (u : Unit) : lv (barCell d) u = 1 := rfl

/-- A wait on a semaphore of level 0 may be entered owing whatever the launch owes. -/
theorem mayWait_low (c : Dev nD) (sm : SemLoc sig) (h : lvAt (kind sm) = 0) (O : Ow) (hO : O = O₀ c ∨ (∃ n, O = OR c n) ∨ O = 0) :
    (levAts L lv : sProp 𝕄) ⊢ MayWait (c : Thread nD τ) sm () O := by
  have key : ∀ O : Ow, (∀ (g : GSem nD τ sig) (u : Unit), 0 < O g u → (∃ d, g = recvCell d c) ∨ ∃ d, g = barCell d) →
      (levAts L lv : sProp 𝕄) ⊢ MayWait (c : Thread nD τ) sm () O := fun O hO =>
    MayOwe.of_cut (L := L) (lev := lv) 0 (fun p hp => by rw [Finset.mem_singleton.mp hp, L_tc]; exact Finset.mem_singleton_self _)
      (fun g u hg => by rcases hO g u hg with ⟨d, rfl⟩ | ⟨d, rfl⟩ <;> exact Finset.mem_singleton_self _)
      (fun p hp => by rw [Finset.mem_singleton.mp hp]; exact le_of_eq h)
      (fun g u hg => by
        rcases hO g u hg with ⟨d, rfl⟩ | ⟨d, rfl⟩
        · rw [lv_recv]; decide
        · rw [lv_bar]; decide)
  rcases hO with rfl | ⟨n, rfl⟩ | rfl
  · exact key _ fun g u hg => O₀_pos hg
  · exact key _ fun g u hg => Or.inl (OR_pos hg)
  · rw [MayWait_zero]; iintro -; iempintro

/-- The barrier wait is entered owing receive credits only. -/
theorem mayWait_bar (c : Dev nD) (n : ℕ) : (levAts L lv : sProp 𝕄) ⊢ MayWait (c : Thread nD τ) (.reg barS) () (OR c n) :=
  MayOwe.of_cut (L := L) (lev := lv) 1 (fun p hp => by rw [Finset.mem_singleton.mp hp, L_tc]; exact Finset.mem_singleton_self _)
    (fun g u hg => by obtain ⟨d, rfl⟩ := OR_pos hg; exact Finset.mem_singleton_self _)
    (fun p hp => by rw [Finset.mem_singleton.mp hp]; exact le_of_eq rfl)
    (fun g u hg => by obtain ⟨d, rfl⟩ := OR_pos hg; rw [lv_recv]; decide)

end Cert.Exchange
-- ==== Proof.Steps.lean ====
module

public import proofs.«01_k».proof.Proof.Proto

/-!
# The steps of a device's body

A device's resources in each phase of the body are one assertion, indexed by how far the phase has
got; one lemma per kind of step advances it, whatever follows the step.
-/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

abbrev 𝒱₀ : Variants := Variants.none

/-- A program of a device's core. -/
abbrev Pr (F : FTy → Type) [FloatOps F] (α : Type) : Type _ := Prog (TpuEff nD τ sig (Elt F) Λ₀ .tc) α

/-- Running `p` on device `c` ends in `Q`. -/
abbrev runs {α : Type} (p : Pr F α) (Q : α → sProp 𝕄) : sProp 𝕄 :=
  wp frame (wpE (defs₀ (F := F)) 𝒱₀ (c : Thread nD τ) none) Set.univ p Q

/-! ## Families advanced one member at a time -/

/-- The family with its first `n` members at `A`, the others at `B`. -/
def fam (A B : Dev nD → sProp 𝕄) (n : ℕ) : sProp 𝕄 := bigSep Finset.univ fun s => if s.val < n then A s else B s

theorem fam_step (A B : Dev nD → sProp 𝕄) (n : Dev nD) : fam A B n.val ⊢ iprop(B n ∗ (A n -∗ fam A B (n.val + 1))) := by
  unfold fam
  rw [bigSep_univ_at _ n, bigSep_univ_at (fun s : Dev nD => if s.val < n.val + 1 then A s else B s) n, if_neg (Nat.lt_irrefl _), if_pos (Nat.lt_succ_self _)]
  rw [bigSep_congr (s := Finset.univ.erase n) (Ψ := fun s : Dev nD => if s.val < n.val + 1 then A s else B s) fun s hs => by
    have hne : s.val ≠ n.val := fun h => (Finset.mem_erase.mp hs).1 (Fin.ext h)
    by_cases h : s.val < n.val
    · rw [if_pos h, if_pos (by omega)]
    · rw [if_neg h, if_neg (by omega)]]
  iintro ⟨HB, HR⟩
  isplitl [HB]; · iexact HB
  iintro HA
  isplitl [HA]; · iexact HA
  iexact HR
theorem fam_zero (A B : Dev nD → sProp 𝕄) : fam A B 0 = bigSep Finset.univ B := by
  unfold fam; exact bigSep_congr fun s _ => if_neg (Nat.not_lt_zero _)
theorem fam_all (A B : Dev nD → sProp 𝕄) : fam A B 16 = bigSep Finset.univ A := by
  unfold fam; exact bigSep_congr fun s _ => if_pos s.isLt

/-! ## What every device knows -/

/-- The levels, the cells' invariants, and that every cell has reached its first round. -/
def Rec : sProp 𝕄 :=
  iprop(levAts L lv ∗ bigSep Finset.univ (fun x => cellInv ER (Rd m ρ) (K x) (kcell x)) ∗ bigSep Finset.univ (fun x => reached ER (kcell x) 0))

instance Rec_persistent : BI.Persistent (Rec (F := F) m ρ K) := by unfold Rec; infer_instance

theorem Rec_inv (x : Dev nD × CI) : Rec (F := F) m ρ K ⊢ cellInv ER (Rd m ρ) (K x) (kcell x) := by
  have h : Rec (F := F) m ρ K ⊢ bigSep Finset.univ (fun x => cellInv ER (Rd m ρ) (K x) (kcell x)) := by
    unfold Rec; iintro ⟨-, H, -⟩; iexact H
  exact h.trans (bigSep_elim (Finset.mem_univ x))
theorem Rec_reached (x : Dev nD × CI) : Rec (F := F) m ρ K ⊢ reached ER (kcell x) 0 := by
  have h : Rec (F := F) m ρ K ⊢ bigSep Finset.univ (fun x => reached ER (kcell x) 0) := by
    unfold Rec; iintro ⟨-, -, H⟩; iexact H
  exact h.trans (bigSep_elim (Finset.mem_univ x))
theorem Rec_lev : Rec (F := F) m ρ K ⊢ (levAts L lv : sProp 𝕄) := by
  unfold Rec; iintro ⟨#H, -⟩; iexact H

set_option maxRecDepth 10000 in
theorem Rec_bar (n : ℕ) : Rec (F := F) m ρ K ⊢ MayWait (c : Thread nD τ) (.reg barS) () (OR c n) := (Rec_lev (F := F) m ρ K).trans (mayWait_bar (F := F) c n)
set_option maxRecDepth 10000 in
theorem Rec_load (n : ℕ) (i : Fin 2) : Rec (F := F) m ρ K ⊢ MayWait (c : Thread nD τ) (.dma (lSem i)) () (OR c n) :=
  (Rec_lev (F := F) m ρ K).trans (mayWait_low (F := F) c _ (by revert i; decide) _ (.inr (.inl ⟨n, rfl⟩)))

/-- What device `c` owes, whatever it has waited on. -/
def Owes (O : Ow) : sProp 𝕄 := iprop(∃ W, owes (c : Thread nD τ) O W)

/-- Closing a cell on which nothing is due any more. -/
theorem close_cell (x : Dev nD × CI) (R : ℕ) (h : ∀ r, R ≤ r → (Rd (F := F) m ρ).duties (kcell x) r = ∅) :
    iprop(Rec (F := F) m ρ K ∗ atPos ER (kcell x) R ∅ 0) ⊢ |={Set.univ}=> semVal (kcell x) 0 := by
  iintro ⟨#Hrec, Hat⟩
  ihave Hi := (Rec_inv m ρ K x) $$ Hrec
  iapply (Rounds.cell_close ER (Rd m ρ) (Set.mem_univ (K x)) (fun h => h) (R := R) h)
  isplitl [Hi] <;> iassumption

/-! ## The waits for the outgoing transfers -/

def swTodo (s : Dev nD) : sProp 𝕄 :=
  iprop(atPos ER (sendCell c s) 0 ∅ 0 ∗ (if dest c s = c then yAny c s else cred (tallyAt (sendCell c s) () N)))
theorem swTodo_ne (s : Dev nD) (h : dest c s ≠ c) : swTodo (F := F) c s = iprop(atPos ER (sendCell c s) 0 ∅ 0 ∗ cred (tallyAt (sendCell c s) () N)) := by
  unfold swTodo; rw [if_neg h]
theorem swTodo_eq (s : Dev nD) (h : dest c s = c) : swTodo (F := F) c s = iprop(atPos ER (sendCell c s) 0 ∅ 0 ∗ yAny c s) := by
  unfold swTodo; rw [if_pos h]
def swDone (s : Dev nD) : sProp 𝕄 := iprop(semVal (sendCell c s) 0 ∗ yAny c s)
/-- The first `n` outgoing transfers waited for. -/
def SW (R : sProp 𝕄) (n : ℕ) : sProp 𝕄 :=
  iprop(Rec (F := F) m ρ K ∗ Owes c 0 ∗ fam (swDone c) (swTodo c) n ∗ R)

theorem step_swait (R : sProp 𝕄) (s : Dev nD) {n : ℕ} (hn : n = s.val) {cond : BitVec 1} {dec : Decidable (cond = 1#1)} (hcond : cond = 1#1 ↔ dest c s ≠ c)
    {α : Type} {Q : α → sProp 𝕄} {kk : Pr F α} {sem : cond = 1#1 → DmaSem sig} (hsem : ∀ h, sem h = sSem s)
    {srcw dstw : cond = 1#1 → Memref sig .tc .vmem S512x256 .bf16} {hsrc : ∀ h, (srcw h).view.WordExact} {hdst : ∀ h, (dstw h).view.WordExact}
    (hN : ∀ h, (dstw h).view.dmaCredit = N)
    (hk : SW m ρ K c R (n + 1) ⊢ runs c kk Q) :
    SW m ρ K c R n ⊢ runs c (@dite _ (cond = 1#1) dec (fun h => .op (.waitDma2 (sem h) (srcw h) (dstw h) (hsrc h) (hdst h)) fun _ => kk) fun _ => kk) Q := by
  subst hn
  unfold runs at hk ⊢
  by_cases hc : cond = 1#1
  · have hd := hcond.mp hc
    rw [dif_pos hc, hsem hc]
    unfold SW Owes at *
    iintro ⟨#Hrec, ⟨%W, HO⟩, Hfam, HR⟩
    ihave Hf := (fam_step (swDone c) (swTodo c) s) $$ Hfam
    icases Hf with ⟨Hs, Hback⟩
    ihave Hs := (Entails.of_eq (swTodo_ne c s hd)) $$ Hs
    icases Hs with ⟨Hat, Hst⟩
    ihave #Hinv := (Rec_inv m ρ K (c, .inr (.inl s))) $$ Hrec
    iapply (Rounds.wp_wait_rest_token 𝒱₀ ER (Rd m ρ) (c : Thread nD τ) none (κ := K (c, .inr (.inl s))) (sm := .dma (sSem s))
      (wpE_waitDma2_eq 𝒱₀ (c : Thread nD τ) none Set.univ) (Set.mem_univ _) () (O := 0) (W := W) (R := 0) (m := 0) (T := ∅)
      (by rw [Nat.zero_add, hN hc, expect_send m ρ c s hd])) $$ [Hst HO Hat]
    · isplitr; · iexact Hinv
      isplitl [Hst]; · rw [hN hc]; iexact Hst
      isplitl [HO]; · iexact HO
      isplitr; · rw [MayWait_zero]; iempintro
      iexact Hat
    iintro ⟨HO, Hat, -, Hpay⟩
    ihave Hy := (Entails.of_eq (rest_send m ρ c s hd)) $$ Hpay
    imod (close_cell m ρ K (c, .inr (.inl s)) 1 (duties_later m ρ _)) $$ [Hat] with Hz
    · isplitr; · iexact Hrec
      iexact Hat
    iapply hk
    isplitr; · iexact Hrec
    isplitl [HO]; · iexists _; iexact HO
    isplitl [Hz Hy Hback]
    · iapply Hback; unfold swDone; isplitl [Hz]; · iexact Hz
      iexact Hy
    iexact HR
  · have hd : dest c s = c := by by_contra h; exact hc (hcond.mpr h)
    rw [dif_neg hc]
    unfold SW at *
    iintro ⟨#Hrec, HO, Hfam, HR⟩
    ihave Hf := (fam_step (swDone c) (swTodo c) s) $$ Hfam
    icases Hf with ⟨Hs, Hback⟩
    ihave Hs := (Entails.of_eq (swTodo_eq c s hd)) $$ Hs
    icases Hs with ⟨Hat, Hst⟩
    imod (close_cell m ρ K (c, .inr (.inl s)) 0 (duties_none m ρ ((duties_send m ρ c s).trans (if_pos hd)))) $$ [Hat] with Hz
    · isplitr; · iexact Hrec
      iexact Hat
    iapply hk
    isplitr; · iexact Hrec
    isplitl [HO]; · iexact HO
    isplitl [Hz Hst Hback]
    · iapply Hback; unfold swDone; isplitl [Hz]; · iexact Hz
      iexact Hst
    iexact HR

/-! ## The entry barrier -/

/-- What a device uses only towards another device. -/
def other (p : Prop) [Decidable p] (P : sProp 𝕄) : sProp 𝕄 := if p then iprop(emp) else P
theorem other_pos {p : Prop} [Decidable p] (h : p) (P : sProp 𝕄) : other p P = iprop(emp) := if_pos h
theorem other_neg {p : Prop} [Decidable p] (h : ¬ p) (P : sProp 𝕄) : other p P = P := if_neg h

def barTodo (d : Dev nD) : sProp 𝕄 := iprop(rAny c d ∗ other (d = c) (dutyTok ER (barCell d) 0 c))
def barDone (d : Dev nD) : sProp 𝕄 := other (d ≠ c) (rAny c d)
/-- The first `n` signals sent: the landing slot for each other device is handed to it with its signal. -/
def Bar (R : sProp 𝕄) (n : ℕ) : sProp 𝕄 :=
  iprop(Rec (F := F) m ρ K ∗ Owes c (OR c 0 + OB c n) ∗ fam (barDone c) (barTodo c) n ∗ R)

theorem barTodo_ne (d : Dev nD) (h : d ≠ c) : barTodo (F := F) c d = iprop(rAny c d ∗ dutyTok ER (barCell d) 0 c) := by
  unfold barTodo; rw [other_neg h]
theorem barTodo_eq (d : Dev nD) (h : d = c) : barTodo (F := F) c d = iprop(rAny c d ∗ emp) := by
  unfold barTodo; rw [other_pos h]
theorem barDone_ne (d : Dev nD) (h : d ≠ c) : barDone (F := F) c d = iprop(emp) := other_pos h _
theorem barDone_eq (d : Dev nD) (h : d = c) : barDone (F := F) c d = rAny c d := other_neg (fun hn => hn h) _

theorem step_signal (R : sProp 𝕄) (d : Dev nD) {k : ℕ} (hd : k = d.val) {cond : BitVec 1} {dec : Decidable (cond = 1#1)} (hcond : cond = 1#1 ↔ d ≠ c)
    {α : Type} {Q : α → sProp 𝕄} {kk : Pr F α} {dst : cond = 1#1 → Thread nD τ} (hdst : ∀ h, dst h = (d : Thread nD τ))
    {sem : Sem sig} (hsem : sem = barS) {n : Int} (hn : n = ((1 : ℕ) : Int))
    (hk : Bar m ρ K c R (k + 1) ⊢ runs c kk Q) :
    Bar m ρ K c R k ⊢ runs c (@dite _ (cond = 1#1) dec (fun h => .op (.semSignal (dst h) sem n) fun _ => kk) fun _ => kk) Q := by
  subst hsem hn hd
  unfold runs at hk ⊢
  by_cases hc : cond = 1#1
  · have hd := hcond.mp hc
    rw [dif_pos hc, hdst hc]
    unfold Bar Owes at *
    iintro ⟨#Hrec, ⟨%W, HO⟩, Hfam, HR⟩
    ihave Hf := (fam_step (barDone c) (barTodo c) d) $$ Hfam
    icases Hf with ⟨Hs, Hback⟩
    ihave Hs := (Entails.of_eq (barTodo_ne c d hd)) $$ Hs
    icases Hs with ⟨Hr, Ht⟩
    ihave #Hinv := (Rec_inv m ρ K (d, .inl ())) $$ Hrec
    ihave #Hre := (Rec_reached m ρ K (d, .inl ())) $$ Hrec
    iapply (Rounds.wp_signal 𝒱₀ ER (Rd m ρ) (c : Thread nD τ) none (dst := (d : Thread nD τ)) (κ := K (d, .inl ()))
        (d := c) (by rw [duties_bar]; exact Finset.mem_erase.mpr ⟨fun h => hd h.symm, Finset.mem_univ _⟩) (amount_bar m ρ d c) () (O₀ := OR c 0 + OB c d.val) (OR c 0 + OB c (d.val + 1))
        (by rw [OB_step, ← add_assoc]; unfold barDue; rw [if_neg hd]))
      $$ [HO Ht Hr]
    · isplitr; · iexact Hinv
      isplitl [HO]; · iexact HO
      isplitl [Ht]; · iexact Ht
      isplitl [Hr]; · rw [payload_bar]; iexact Hr
      iexact Hre
    iintro HO
    iapply hk
    isplitr; · iexact Hrec
    isplitl [HO]; · iexists _; iexact HO
    isplitl [Hback]
    · iapply Hback; rw [barDone_ne c d hd]; iempintro
    iexact HR
  · have hd : d = c := by by_contra h; exact hc (hcond.mpr h)
    rw [dif_neg hc]
    unfold Bar at *
    rw [OB_step]
    have hz : barDue c d = 0 := if_pos hd
    rw [hz, add_zero]
    iintro ⟨#Hrec, HO, Hfam, HR⟩
    ihave Hf := (fam_step (barDone c) (barTodo c) d) $$ Hfam
    icases Hf with ⟨Hs, Hback⟩
    ihave Hs := (Entails.of_eq (barTodo_eq c d hd)) $$ Hs
    icases Hs with ⟨Hr, -⟩
    iapply hk
    isplitr; · iexact Hrec
    isplitl [HO]; · iexact HO
    isplitl [Hback Hr]
    · iapply Hback; rw [barDone_eq c d hd]; iexact Hr
    iexact HR

theorem own_slot : bigSep Finset.univ (barDone (F := F) c) ⊢ rAny (F := F) c c :=
  (bigSep_elim (Finset.mem_univ c)).trans (Entails.of_eq (barDone_eq c c rfl))

/-- The landing slots on the other devices, in the order of sending. -/
theorem slots_reindex : bigSep (Finset.univ.erase c) (fun d => rAny (F := F) d c)
    ⊢ bigSep Finset.univ fun s => other (dest c s = c) (rAny (F := F) (dest c s) c) := by
  have h := bigSep_univ_equiv (destE c) (fun d : Dev nD => other (d = c) (rAny (F := F) d c))
  have h2 := bigSep_univ_at (fun d : Dev nD => other (d = c) (rAny (F := F) d c)) c
  have h3 : bigSep (Finset.univ.erase c) (fun d : Dev nD => other (d = c) (rAny (F := F) d c)) = bigSep (Finset.univ.erase c) (fun d => rAny (F := F) d c) :=
    bigSep_congr fun d hd => other_neg (Finset.mem_erase.mp hd).1 _
  rw [other_pos rfl, h3] at h2
  have h4 : bigSep (Finset.univ.erase c) (fun d => rAny (F := F) d c) ⊢ iprop(emp ∗ bigSep (Finset.univ.erase c) (fun d => rAny (F := F) d c)) := by
    iintro H
    isplitr; · iempintro
    iexact H
  exact h4.trans (Entails.of_eq (h2.symm.trans h))

theorem step_barwait (R : sProp 𝕄) {α : Type} {Q : α → sProp 𝕄} {kk : PUnit → Pr F α}
    {sem : Sem sig} (hsem : sem = barS) {n : Int} (hn : n = ((15 : ℕ) : Int))
    (hk : iprop(Rec (F := F) m ρ K ∗ Owes c (OR c 0) ∗ (semVal (barCell c) 0 ∗ rAny c c ∗ bigSep Finset.univ fun s => other (dest c s = c) (rAny (F := F) (dest c s) c)) ∗ R)
      ⊢ runs c (kk ⟨⟩) Q) :
    Bar m ρ K c iprop((atPos ER (barCell c) 0 ∅ 0 ∗ cred (tallyAt (barCell c) () 15)) ∗ R) 16 ⊢ runs c (.op (.semWait sem n) kk) Q := by
  subst hsem hn
  unfold runs at hk ⊢
  unfold Bar Owes at *
  rw [OB_16, add_zero, fam_all]
  iintro ⟨#Hrec, ⟨%W, HO⟩, Hfam, ⟨Hat, Hcr⟩, HR⟩
  ihave #Hinv := (Rec_inv m ρ K (c, .inl ())) $$ Hrec
  iapply (Rounds.wp_wait_rest_token 𝒱₀ ER (Rd m ρ) (c : Thread nD τ) none (κ := K (c, .inl ())) (sm := .reg barS) (k' := 15)
    (wpE_semWait_eq 𝒱₀ (c : Thread nD τ) none Set.univ) (Set.mem_univ _) () (O := OR c 0) (W := W) (R := 0) (m := 0) (T := ∅)
    (by rw [Nat.zero_add, expect_bar])) $$ [Hcr HO Hat]
  · isplitr; · iexact Hinv
    isplitl [Hcr]; · iexact Hcr
    isplitl [HO]; · iexact HO
    isplitr
    · iapply (Rec_bar m ρ K c 0); iexact Hrec
    iexact Hat
  iintro ⟨HO, Hat, -, Hpay⟩
  ihave Hp := (Entails.of_eq (rest_bar m ρ c)) $$ Hpay
  imod (close_cell m ρ K (c, .inl ()) 1 (duties_later m ρ _)) $$ [Hat] with Hz
  · isplitr; · iexact Hrec
    iexact Hat
  iapply hk
  isplitr; · iexact Hrec
  isplitl [HO]; · iexists _; iexact HO
  isplitl [Hz Hp Hfam]
  · isplitl [Hz]; · iexact Hz
    isplitl [Hfam]
    · iapply (own_slot c) $$ Hfam
    iapply (slots_reindex c); iexact Hp
  iexact HR

/-! ## The pieces of the second argument -/

/-- Landing slot `i` of the pieces. -/
abbrev wSl (i : Fin 2) : Memref sig .tc .vmem S2048x1024 .bf16 :=
  ((Memref.whole cc0_scratch0).slice (rs i) (fun _ => rfl)).squeeze S2048x1024 squeezes_S1x2048x1024_S2048x1024
/-- Piece `k` of column group `g` in the argument. -/
abbrev srcM (k g : Fin 4) : Memref sig .tc .hbm S2048x1024 .bf16 := (Memref.whole main_arg1).slice (rw' k g) (fun _ => rfl)

theorem wSl_eq {i : Fin 2} {o : Fin 3 → ℕ} (ho : o = ![i.val, 0, 0]) {hb : ∀ a, o a + S1x2048x1024.size a ≤ S2x2048x1024.size a} {hh hq} :
    ((Memref.whole cc0_scratch0).slice (Rect.unit (s := S2x2048x1024) o S1x2048x1024.size hb) hh).squeeze S2048x1024 hq = wSl i := by
  subst ho; rfl
theorem srcM_eq {k g : Fin 4} {o : Fin 2 → ℕ} (ho : o = ![2048 * k.val, 1024 * g.val]) {hb : ∀ a, o a + S2048x1024.size a ≤ S8192x4096.size a} {hh} :
    (Memref.whole main_arg1).slice (Rect.unit (s := S8192x4096) o S2048x1024.size hb) hh = srcM k g := by
  subst ho; rfl
theorem ySl_eq {s : Dev nD} {o : Fin 3 → ℕ} (ho : o = ![s.val, 0, 0]) {hb : ∀ a, o a + S1x512x256.size a ≤ S16x512x256.size a} {hh hq} :
    ((Memref.whole cc0_scratch1).slice (Rect.unit (s := S16x512x256) o S1x512x256.size hb) hh).squeeze S512x256 hq = ySl s := by
  subst ho; rfl
theorem rSl_eq {s : Dev nD} {o : Fin 3 → ℕ} (ho : o = ![s.val, 0, 0]) {hb : ∀ a, o a + S1x512x256.size a ≤ S16x512x256.size a} {hh hq} :
    ((Memref.whole cc0_scratch2).slice (Rect.unit (s := S16x512x256) o S1x512x256.size hb) hh).squeeze S512x256 hq = rSl s := by
  subst ho; rfl
theorem inb1 (s : Dev nD) : ∀ a, (![s.val] : Fin 1 → ℕ) a + S1.size a ≤ S16.size a := by
  have hs : s.val < 16 := s.isLt
  intro a; fin_cases a; show s.val + 1 ≤ 16; omega
theorem sSem_at : ∀ s : Dev nD, ((cc0_scratch4.slice (Rect.unit (s := S16) ![s.val] S1.size (inb1 s))).squeeze S_ squeezes_S1_S_).sem = sSem s := by
  decide +kernel
theorem rSem_at : ∀ s : Dev nD, ((cc0_scratch5.slice (Rect.unit (s := S16) ![s.val] S1.size (inb1 s))).squeeze S_ squeezes_S1_S_).sem = rSem s := by
  decide +kernel
theorem sSem_eq {s : Dev nD} {o : Fin 1 → ℕ} (ho : o = ![s.val]) {hb : ∀ a, o a + S1.size a ≤ S16.size a} {hq} :
    ((cc0_scratch4.slice (Rect.unit (s := S16) o S1.size hb)).squeeze S_ hq).sem = sSem s := by
  subst ho; exact sSem_at s
theorem rSem_eq {s : Dev nD} {o : Fin 1 → ℕ} (ho : o = ![s.val]) {hb : ∀ a, o a + S1.size a ≤ S16.size a} {hq} :
    ((cc0_scratch5.slice (Rect.unit (s := S16) o S1.size hb)).squeeze S_ hq).sem = rSem s := by
  subst ho; exact rSem_at s

abbrev NL : ℕ := (wSl 0).view.dmaCredit
theorem NL_pos : 0 < NL := View.dmaCredit_pos _ (by decide)

/-- What a landing slot is doing: nothing, receiving piece `k` of column group `g`, holding it. -/
inductive WS where
  | idle
  | fly (k g : Fin 4)
  | ready (k g : Fin 4)

/-- Nothing is under way. -/
def WS.free : WS → Prop
  | .fly _ _ => False
  | _ => True

def half : Fin 2 → PosShare TreeShare
  | 0 => (fullShare : PosShare TreeShare).left
  | 1 => (fullShare : PosShare TreeShare).right

def argPts (S : Finset (Idx ((c : Thread nD τ).loc main_arg1))) (q : PosShare TreeShare) : sProp 𝕄 :=
  (c : Thread nD τ).loc main_arg1 ↦[S]{q} m ((c : Thread nD τ).loc main_arg1)
def wHas (i : Fin 2) (k g : Fin 4) : sProp 𝕄 :=
  iprop(∃ f : Buf (Elt F) ((wSl i).view.loc (c : Thread nD τ)), ⌜((View.whole cc0_scratch0).slice (rs i)).read (Elt F) f = wv m c k g⌝ ∗ ((wSl i).view.loc (c : Thread nD τ) ↦[(wSl i).view.set]{fullShare} f))
def wAny (i : Fin 2) : sProp 𝕄 :=
  iprop(∃ f : Buf (Elt F) ((wSl i).view.loc (c : Thread nD τ)), ((wSl i).view.loc (c : Thread nD τ) ↦[(wSl i).view.set]{fullShare} f))

/-- The resources of landing slot `i`, its semaphore and its share of the argument. -/
def WRes (i : Fin 2) : WS → sProp 𝕄
  | .idle => iprop(wAny c i ∗ semVal ((c : Thread nD τ), .dma (lSem i)) 0 ∗ argPts m c Finset.univ (half i))
  | .fly k g => iprop(Flight EC (c : Thread nD τ) (.dma (lSem i)) () NL iprop(wHas m c i k g ∗ argPts m c (srcM k g).view.set (half i))
      ∗ argPts m c (Finset.univ \ (srcM k g).view.set) (half i))
  | .ready k g => iprop(wHas m c i k g ∗ semVal ((c : Thread nD τ), .dma (lSem i)) 0 ∗ argPts m c Finset.univ (half i))

theorem WRes_idle (i : Fin 2) (x : WS) (h : x.free) : WRes (F := F) m c i x ⊢ WRes m c i .idle := by
  cases x with
  | idle => exact BI.Entails.refl _
  | fly k g => exact h.elim
  | ready k g =>
    unfold WRes wHas wAny
    iintro ⟨⟨%f, -, H⟩, HR⟩
    isplitl [H]; · iexists f; iexact H
    iexact HR

/-- Both landing slots. -/
def Slots (w : Fin 2 → WS) : sProp 𝕄 := bigSep Finset.univ fun i => WRes m c i (w i)

theorem Slots_step {w w' : Fin 2 → WS} (i : Fin 2) (hw : ∀ j, j ≠ i → w' j = w j) :
    Slots (F := F) m c w ⊢ iprop(WRes m c i (w i) ∗ (WRes m c i (w' i) -∗ Slots m c w')) := by
  unfold Slots
  rw [bigSep_univ_at _ i, bigSep_univ_at (fun i => WRes m c i (w' i)) i]
  rw [bigSep_congr (s := Finset.univ.erase i) (Φ := fun i => WRes (F := F) m c i (w' i)) (Ψ := fun i => WRes m c i (w i)) fun j hj => by
    rw [hw j (Finset.mem_erase.mp hj).1]]
  iintro ⟨HB, HR⟩
  isplitl [HB]; · iexact HB
  iintro HA
  isplitl [HA]; · iexact HA
  iexact HR

/-! ## The computing phase -/

abbrev ro (s : Dev nD) : Rect S8192x256 := Rect.unit ![512 * s.val, 0] S512x256.size (fun a => by
  have hs : s.val < 16 := s.isLt
  fin_cases a
  · show 512 * s.val + 512 ≤ 8192; omega
  · exact Nat.le_refl _)

/-- The result's blocks in `P` are written. -/
def Out (P : Dev nD → Prop) : sProp 𝕄 :=
  iprop(∃ f : Buf (Elt F) ((c : Thread nD τ).loc cc0_stg1_0), ⌜∀ s, P s → ((View.whole cc0_stg1_0).slice (ro s)).read (Elt F) f = outBlk m ρ c s⌝
    ∗ ((c : Thread nD τ).loc cc0_stg1_0 ↦{fullShare} f))
theorem Out_mono {P P' : Dev nD → Prop} (h : ∀ s, P' s → P s) : Out (F := F) m ρ c P ⊢ Out m ρ c P' := by
  unfold Out
  iintro ⟨%f, %hf, H⟩
  iexists f
  isplitr; · ipureintro; exact fun s hs => hf s (h s hs)
  iexact H
def XPts : sProp 𝕄 := (c : Thread nD τ).loc cc0_stg0_0 ↦{fullShare} xstg m ρ c

def sndTodo (s : Dev nD) : sProp 𝕄 :=
  iprop(yAny c s ∗ other (dest c s = c) (rAny (dest c s) c) ∗ other (dest c s = c) iprop(dutyTok ER (sendCell c s) 0 0 ∗ dutyTok ER (recvCell (dest c s) c) 0 0))
def sndDone (s : Dev nD) : sProp 𝕄 := if dest c s = c then yAny c s else cred (tallyAt (sendCell c s) () N)

/-- The landing slots at `w`, the first `n` places of the order of sending sent, the own tile stored if among the first `k`. -/
def Mid (R : sProp 𝕄) (w : Fin 2 → WS) (n k : ℕ) : sProp 𝕄 :=
  iprop(Rec (F := F) m ρ K ∗ Owes c (OR c n) ∗ Slots m c w ∗ fam (sndDone c) (sndTodo c) n ∗ XPts m ρ c
    ∗ Out m ρ c (fun s => s = c ∧ (place c c).val < k) ∗ R)

theorem read_dma (i : Fin 2) (fd : Buf (Elt F) ((wSl i).view.loc (c : Thread nD τ))) (w : S2048x1024.Idx → Elt F .bf16) :
    ((View.whole cc0_scratch0).slice (rs i)).read (Elt F) ((wSl i).view.write (Elt F) fd w Finset.univ)
      = fun x => w ((Shape.reshapeEquiv squeezes_S1x2048x1024_S2048x1024.numel_eq).symm x) := by
  funext x
  have h := View.read_write_reshape ((View.whole cc0_scratch0).slice (rs i)) squeezes_S1x2048x1024_S2048x1024.numel_eq fd w
    ((Shape.reshapeEquiv squeezes_S1x2048x1024_S2048x1024.numel_eq).symm x)
  rw [Equiv.apply_symm_apply] at h
  exact h

theorem step_start (R : sProp 𝕄) {w : Fin 2 → WS} {n k' : ℕ} (w' : Fin 2 → WS) (i : Fin 2) (k g : Fin 4) (hfree : (w i).free) (hi : w' i = .fly k g) (hw : ∀ j, j ≠ i → w' j = w j)
    {α : Type} {Q : α → sProp 𝕄} {kk : PUnit → Pr F α} {src : Memref sig .tc .hbm S2048x1024 .bf16} {dst : Memref sig .tc .vmem S2048x1024 .bf16} {sm : DmaSem sig}
    (hs : src = srcM k g) (hd : dst = wSl i) (hsm : sm = lSem i) {h1 : src.view.WordExact} {h2 : (DmaTarget.here (nD := nD) (τ := τ) (p := Proc.tc) dst).view.WordExact} {h3}
    (hk : Mid m ρ K c R w' n k' ⊢ runs c (kk ⟨⟩) Q) :
    Mid m ρ K c R w n k' ⊢ runs c (.op (.enqueueDma (p := Proc.tc) src (.here dst) (.dma sm) h1 h2 h3) kk) Q := by
  subst hs hd hsm
  unfold runs at hk ⊢
  unfold Mid at *
  iintro ⟨#Hrec, HO, HS, HR⟩
  ihave Hst := (Slots_step m c i hw) $$ HS
  icases Hst with ⟨Hi, Hback⟩
  ihave Hi := (WRes_idle m c i (w i) hfree) $$ Hi
  unfold WRes wAny argPts
  icases Hi with ⟨⟨%fd, Hd⟩, Hv, Ha⟩
  ihave Ha := (pointsTo_split_subset (Finset.subset_univ (srcM k g).view.set)).1 $$ Ha
  icases Ha with ⟨Ha, Hc⟩
  iapply (wp_dmaLocal EC 𝒱₀ (c : Thread nD τ) none () NL rfl NL_pos (subset_rfl)) $$ [Ha Hd Hv]
  · isplitl [Ha]; · iexact Ha
    isplitl [Hd]; · iexact Hd
    iexact Hv
  iintro HF
  iapply hk
  isplitr; · iexact Hrec
  isplitl [HO]; · iexact HO
  isplitl [HF Hc Hback]
  · iapply Hback
    rw [hi]
    isplitl [HF]
    · iapply (Flight_mono EC (c : Thread nD τ) ?_) $$ HF
      unfold wHas
      iintro ⟨Hd, Ha⟩
      isplitl [Hd]
      · iexists _
        isplitr
        · ipureintro; exact read_dma c i fd _
        iexact Hd
      iexact Ha
    iexact Hc
  iexact HR

end Cert.Exchange
-- ==== Proof.Moves.lean ====
module

public import proofs.«01_k».proof.Proof.Steps

/-!
# The steps of the computing and the receiving phase
-/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## The pieces of the second argument arriving -/

theorem step_wait (R : sProp 𝕄) {w : Fin 2 → WS} {n k' : ℕ} (w' : Fin 2 → WS) (i : Fin 2) (k g : Fin 4) (hi : w i = .fly k g) (hi' : w' i = .ready k g) (hw : ∀ j, j ≠ i → w' j = w j)
    {α : Type} {Q : α → sProp 𝕄} {kk : PUnit → Pr F α} {src : Memref sig .tc .hbm S2048x1024 .bf16} {dst : Memref sig .tc .vmem S2048x1024 .bf16} {sm : DmaSem sig}
    (hd : dst.view.dmaCredit = NL) (hsm : sm = lSem i) {h1 : src.view.WordExact} {h2 : dst.view.WordExact}
    (hk : Mid m ρ K c R w' n k' ⊢ runs c (kk ⟨⟩) Q) :
    Mid m ρ K c R w n k' ⊢ runs c (.op (.waitDma2 sm src dst h1 h2) kk) Q := by
  subst hsm
  unfold runs at hk ⊢
  unfold Mid Owes at *
  iintro ⟨#Hrec, ⟨%W, HO⟩, HS, HR⟩
  ihave Hst := (Slots_step m c i hw) $$ HS
  icases Hst with ⟨Hi, Hback⟩
  rw [hi, hi']
  unfold WRes
  icases Hi with ⟨HF, Ha⟩
  iapply (wp_waitLocalO EC 𝒱₀ (c : Thread nD τ) none () hd) $$ [HF HO]
  · isplitl [HF]; · iexact HF
    isplitl [HO]; · iexact HO
    iapply (Rec_load m ρ K c n i); iexact Hrec
  iintro ⟨⟨Hw, Hb⟩, Hv, HO⟩
  iapply hk
  isplitr; · iexact Hrec
  isplitl [HO]; · iexists _; iexact HO
  isplitl [Hw Hb Hv Ha Hback]
  · iapply Hback
    isplitl [Hw]; · iexact Hw
    isplitl [Hv]; · iexact Hv
    unfold argPts
    iapply (pointsTo_split_subset (Finset.subset_univ (srcM k g).view.set)).2
    isplitl [Hb] <;> iassumption
  iexact HR

theorem step_loadx (R : sProp 𝕄) {w : Fin 2 → WS} {n k' : ℕ} (k : Fin 4)
    {α : Type} {Q : α → sProp 𝕄} {o : Fin 2 → ℕ} (ho : o = ![0, 2048 * k.val]) {hb} {hl}
    {kk : ((Rect.unit (s := S512x8192) o ![512, 2048] hb).toLoadRect.shape.Idx → Elt F .bf16) → Pr F α}
    (hk : Mid m ρ K c R w n k' ⊢ runs c (kk (xv m ρ c k)) Q) :
    Mid m ρ K c R w n k' ⊢ runs c (.op (.load (Memref.whole cc0_stg0_0) (Rect.unit (s := S512x8192) o ![512, 2048] hb).toLoadRect hl) kk) Q := by
  subst ho
  unfold runs at hk ⊢
  unfold Mid XPts at *
  iintro ⟨#Hrec, HO, HS, Hf, HX, HR⟩
  iapply (wp_load 𝒱₀ (c : Thread nD τ) none Set.univ (m := Memref.whole cc0_stg0_0) (Finset.subset_univ _)) $$ HX
  iintro HX
  iapply hk
  isplitr; · iexact Hrec
  isplitl [HO]; · iexact HO
  isplitl [HS]; · iexact HS
  isplitl [Hf]; · iexact Hf
  isplitl [HX]; · iexact HX
  iexact HR

theorem wset (i : Fin 2) : (Memref.whole cc0_scratch0).view.setOn (rs i).toLoadRect.set ⊆ (wSl i).view.set := by
  have h : (wSl i).view.set = ((View.whole cc0_scratch0).slice (rs i)).set := View.set_reshape _ _
  rw [h, View.set_slice]; exact Finset.Subset.refl _
theorem yset (s : Dev nD) : (Memref.whole cc0_scratch1).view.setOn (r3 s).toLoadRect.set ⊆ (ySl s).view.set := by
  have h : (ySl s).view.set = ((View.whole cc0_scratch1).slice (r3 s)).set := View.set_reshape _ _
  rw [h, View.set_slice]; exact Finset.Subset.refl _
theorem rset (s : Dev nD) : (Memref.whole cc0_scratch2).view.setOn (r3 s).toLoadRect.set ⊆ (rSl s).view.set := by
  have h : (rSl s).view.set = ((View.whole cc0_scratch2).slice (r3 s)).set := View.set_reshape _ _
  rw [h, View.set_slice]; exact Finset.Subset.refl _

theorem ysetA (s : Dev nD) : ((Memref.whole cc0_scratch1).access (r3 s)).setOn Finset.univ ⊆ (ySl s).view.set := by
  have h : (ySl s).view.set = ((View.whole cc0_scratch1).slice (r3 s)).set := View.set_reshape _ _
  rw [h]; exact Finset.Subset.refl _

theorem step_loadw (R : sProp 𝕄) {w : Fin 2 → WS} {n k' : ℕ} (i : Fin 2) (k g : Fin 4) (hi : w i = .ready k g)
    {α : Type} {Q : α → sProp 𝕄} {o : Fin 3 → ℕ} (ho : o = ![i.val, 0, 0]) {hb} {hl}
    {kk : ((Rect.unit (s := S2x2048x1024) o ![1, 2048, 1024] hb).toLoadRect.shape.Idx → Elt F .bf16) → Pr F α}
    (hk : Mid m ρ K c R w n k' ⊢ runs c (kk (wv m c k g)) Q) :
    Mid m ρ K c R w n k' ⊢ runs c (.op (.load (Memref.whole cc0_scratch0) (Rect.unit (s := S2x2048x1024) o ![1, 2048, 1024] hb).toLoadRect hl) kk) Q := by
  subst ho
  unfold runs at hk ⊢
  unfold Mid at *
  iintro ⟨#Hrec, HO, HS, HR⟩
  ihave Hst := (Slots_step m c (w := w) (w' := w) i (fun _ _ => rfl)) $$ HS
  icases Hst with ⟨Hi, Hback⟩
  rw [hi]
  unfold WRes wHas
  icases Hi with ⟨⟨%f, %hf, Hw⟩, Hv, Ha⟩
  iapply (wp_load 𝒱₀ (c : Thread nD τ) none Set.univ (m := Memref.whole cc0_scratch0) (wset i)) $$ Hw
  iintro Hw
  have hv : (Memref.whole cc0_scratch0).view.readAt (Elt F) (rs i).toLoadRect f = wv m c k g := hf
  rw [hv]
  iapply hk
  isplitr; · iexact Hrec
  isplitl [HO]; · iexact HO
  isplitl [Hw Hv Ha Hback]
  · iapply Hback
    isplitl [Hw]
    · iexists f
      isplitr; · ipureintro; exact hf
      iexact Hw
    isplitl [Hv]; · iexact Hv
    iexact Ha
  iexact HR

/-! ## The own tile -/

theorem own_iff (c s : Dev nD) : dest c s = c ↔ place c c = s :=
  ⟨fun h => (congrArg (place c) h.symm).trans (place_dest c s), fun h => by rw [← h, dest_place]⟩

theorem step_own (R : sProp 𝕄) {w : Fin 2 → WS} {n k : ℕ} (s : Dev nD) (hs : k = s.val) {cond : BitVec 1} {dec : Decidable (cond = 1#1)} (hcond : cond = 1#1 ↔ dest c s = c)
    {α : Type} {Q : α → sProp 𝕄} {kk : Pr F α} {o : cond = 1#1 → Fin 2 → ℕ} (ho : ∀ h, o h = ![512 * c.val, 0])
    {hb hb' : ∀ h a, o h a + (![512, 256] : Fin 2 → ℕ) a ≤ S8192x256.size a}
    {hl : ∀ h, (Memref.whole cc0_stg1_0).view.LoadsAt (Rect.unit (s := S8192x256) (o h) ![512, 256] (hb h)).toLoadRect}
    {pay : cond = 1#1 → FVec F S512x256 .f32}
    {hx : ∀ h, ((Memref.whole cc0_stg1_0).access (Rect.unit (s := S8192x256) (o h) ![512, 256] (hb' h))).Stores Finset.univ}
    {hm : ∀ h, (Finset.univ : Finset (Rect.unit (s := S8192x256) (o h) ![512, 256] (hb' h)).shape.Idx) = Finset.univ ∨ ∀ a, (Rect.unit (s := S8192x256) (o h) ![512, 256] (hb' h)).stride a = 1}
    (hpay : ∀ h, pay h = tile (yFull m ρ c (gOf c (hi s))) (lo s))
    (hk : Mid m ρ K c R w n (k + 1) ⊢ runs c kk Q) :
    Mid m ρ K c R w n k ⊢ runs c (@dite _ (cond = 1#1) dec
      (fun h => .op (.load (Memref.whole cc0_stg1_0) (Rect.unit (s := S8192x256) (o h) ![512, 256] (hb h)).toLoadRect (hl h))
        fun (_ : Vec F S512x256 .f32) => .op (.store (Memref.whole cc0_stg1_0) (Rect.unit (s := S8192x256) (o h) ![512, 256] (hb' h)) (pay h) Finset.univ (hx h) (hm h)) fun _ => kk) fun _ => kk) Q := by
  subst hs
  unfold runs at hk ⊢
  by_cases hc : cond = 1#1
  · have hd := hcond.mp hc
    rw [dif_pos hc]
    obtain rfl : o = fun _ => ![512 * c.val, 0] := funext ho
    rw [hpay hc]
    unfold Mid Out at *
    iintro ⟨#Hrec, HO, HS, Hf, HX, ⟨%f, %hf, Hout⟩, HR⟩
    iapply (wp_load 𝒱₀ (c : Thread nD τ) none Set.univ (m := Memref.whole cc0_stg1_0) (Finset.subset_univ _)) $$ Hout
    iintro Hout
    iapply (wp_store 𝒱₀ (c : Thread nD τ) none Set.univ (m := Memref.whole cc0_stg1_0) (r := ro c) (S := Finset.univ) (f := f) (Finset.subset_univ _)) $$ Hout
    iintro Hout
    iapply hk
    isplitr; · iexact Hrec
    isplitl [HO]; · iexact HO
    isplitl [HS]; · iexact HS
    isplitl [Hf]; · iexact Hf
    isplitl [HX]; · iexact HX
    isplitl [Hout]
    · iexists _
      isplitr
      rotate_left
      · iexact Hout
      · ipureintro
        rintro s' ⟨hs', -⟩
        rw [hs']
        refine (View.read_write_univ _ _).trans ?_
        unfold outBlk
        rw [if_pos rfl, ← tileFor_dest, hd]
    iexact HR
  · have hd : place c c ≠ s := fun h => hc (hcond.mpr ((own_iff c s).mpr h))
    rw [dif_neg hc]
    unfold Mid at *
    iintro ⟨#Hrec, HO, HS, Hf, HX, Hout, HR⟩
    iapply hk
    isplitr; · iexact Hrec
    isplitl [HO]; · iexact HO
    isplitl [HS]; · iexact HS
    isplitl [Hf]; · iexact Hf
    isplitl [HX]; · iexact HX
    isplitl [Hout]
    · iapply (Out_mono m ρ c (P := fun s' => s' = c ∧ (place c c).val < s.val) (P' := fun s' => s' = c ∧ (place c c).val < s.val + 1)
        fun s' h => ⟨h.1, by have := h.2; have : (place c c).val ≠ s.val := fun h => hd (Fin.ext h); omega⟩) $$ Hout
    iexact HR

/-! ## Sending a tile -/

theorem sndTodo_ne (s : Dev nD) (h : dest c s ≠ c) : sndTodo (F := F) c s
    = iprop(yAny c s ∗ rAny (dest c s) c ∗ (dutyTok ER (sendCell c s) 0 0 ∗ dutyTok ER (recvCell (dest c s) c) 0 0)) := by
  unfold sndTodo; rw [other_neg h, other_neg h]
theorem sndTodo_eq (s : Dev nD) (h : dest c s = c) : sndTodo (F := F) c s = iprop(yAny c s ∗ emp ∗ emp) := by
  unfold sndTodo; rw [other_pos h, other_pos h]
theorem sndDone_ne (s : Dev nD) (h : dest c s ≠ c) : sndDone (F := F) c s = cred (tallyAt (sendCell c s) () N) := if_neg h
theorem sndDone_eq (s : Dev nD) (h : dest c s = c) : sndDone (F := F) c s = yAny c s := if_pos h

theorem read_landed (d b : Dev nD) (fd : Buf (Elt F) ((rSl b).view.loc (d : Thread nD τ))) (w : S512x256.Idx → Elt F .bf16) :
    ((View.whole cc0_scratch2).slice (r3 b)).read (Elt F) ((rSl b).view.write (Elt F) fd w Finset.univ)
      = fun x => w ((Shape.reshapeEquiv squeezes_S1x512x256_S512x256.numel_eq).symm x) := by
  funext x
  have h := View.read_write_reshape ((View.whole cc0_scratch2).slice (r3 b)) squeezes_S1x512x256_S512x256.numel_eq fd w
    ((Shape.reshapeEquiv squeezes_S1x512x256_S512x256.numel_eq).symm x)
  rw [Equiv.apply_symm_apply] at h
  exact h
theorem read_outgoing (s : Dev nD) (f : Buf (Elt F) ((ySl s).view.loc (c : Thread nD τ))) (w : S1x512x256.Idx → Elt F .bf16) :
    (ySl s).view.read (Elt F) (((Memref.whole cc0_scratch1).access (r3 s)).write (Elt F) f w Finset.univ)
      = fun y => w (Shape.reshapeEquiv squeezes_S1x512x256_S512x256.numel_eq y) := by
  funext y
  exact congrFun (View.read_write_univ (v := (Memref.whole cc0_scratch1).access (r3 s)) f w) (Shape.reshapeEquiv squeezes_S1x512x256_S512x256.numel_eq y)

/-- The outgoing slot's buffer with the tile stored. -/
def outgoing (s : Dev nD) (fy : Buf (Elt F) ((ySl s).view.loc (c : Thread nD τ))) : Buf (Elt F) ((ySl s).view.loc (c : Thread nD τ)) :=
  ((Memref.whole cc0_scratch1).access (r3 s)).write (Elt F) fy (k0_pay6 (tile (yFull m ρ c (gOf c (hi s))) (lo s))) Finset.univ
theorem lands (s : Dev nD) (fd : Buf (Elt F) ((rSl c).view.loc (dest c s : Thread nD τ))) (fy : Buf (Elt F) ((ySl s).view.loc (c : Thread nD τ))) :
    ((rSl c).view.loc (dest c s : Thread nD τ) ↦[(rSl c).view.set]{fullShare} (rSl c).view.write (Elt F) fd ((ySl s).view.read (Elt F) (outgoing m ρ c s fy)) Finset.univ : sProp 𝕄)
      ⊢ recvPay m ρ (dest c s) c := by
  unfold recvPay rSlot outgoing
  rw [read_outgoing]
  iintro H
  iexists _
  isplitr
  rotate_left
  · iexact H
  · ipureintro
    rw [read_landed]
    funext x
    unfold sent
    rw [tileFor_dest, Equiv.apply_symm_apply]
theorem leaves (s : Dev nD) (fs : Buf (Elt F) ((ySl s).view.loc (c : Thread nD τ))) :
    ((ySl s).view.loc (c : Thread nD τ) ↦[(ySl s).view.set]{fullShare} fs : sProp 𝕄) ⊢ (Rd (F := F) m ρ).payload (sendCell c s) 0 0 := by
  rw [payload_send]; unfold yAny ySlot
  iintro H; iexists fs; iexact H

theorem step_send (R : sProp 𝕄) {w : Fin 2 → WS} {n k' : ℕ} (s : Dev nD) (hs : n = s.val) {cond : BitVec 1} {dec : Decidable (cond = 1#1)} (hcond : cond = 1#1 ↔ dest c s ≠ c)
    {α : Type} {Q : α → sProp 𝕄} {kk : Pr F α} {o : Fin 3 → ℕ} (ho : o = ![s.val, 0, 0])
    {hb hb' : ∀ a, o a + (![1, 512, 256] : Fin 3 → ℕ) a ≤ S16x512x256.size a}
    {hl : cond = 1#1 → (Memref.whole cc0_scratch1).view.LoadsAt (Rect.unit (s := S16x512x256) o ![1, 512, 256] hb).toLoadRect}
    {pay : cond = 1#1 → FVec F S1x512x256 .bf16}
    {hx : cond = 1#1 → ((Memref.whole cc0_scratch1).access (Rect.unit (s := S16x512x256) o ![1, 512, 256] hb')).Stores Finset.univ}
    {hm : cond = 1#1 → (Finset.univ : Finset (Rect.unit (s := S16x512x256) o ![1, 512, 256] hb').shape.Idx) = Finset.univ ∨ ∀ a, (Rect.unit (s := S16x512x256) o ![1, 512, 256] hb').stride a = 1}
    (hpay : ∀ h, pay h = k0_pay6 (tile (yFull m ρ c (gOf c (hi s))) (lo s)))
    {dv : cond = 1#1 → Dev nD} (hdv : ∀ h, dv h = dest c s)
    {src dst : cond = 1#1 → Memref sig .tc .vmem S512x256 .bf16} (hsrc : ∀ h, src h = ySl s) (hdst : ∀ h, dst h = rSl c)
    {sm sm' : cond = 1#1 → DmaSem sig} (hsm : ∀ h, sm h = sSem s) (hsm' : ∀ h, sm' h = rSem c)
    {hsc : ∀ h, (dst h).view.ref.isScScratch = false} {hw1 : ∀ h, (src h).view.WordExact} {hw2 : ∀ h, (dst h).view.WordExact}
    {hty : ∀ h, DmaTarget.Typed (p := Proc.tc) .vmem (.dma (sm' h)) (.remote (Dev.tc (dv h)) (dst h) (.dma (sm h)) (hsc h))}
    (hk : Mid m ρ K c R w (n + 1) k' ⊢ runs c kk Q) :
    Mid m ρ K c R w n k' ⊢ runs c (@dite _ (cond = 1#1) dec
      (fun h => .op (.load (Memref.whole cc0_scratch1) (Rect.unit (s := S16x512x256) o ![1, 512, 256] hb).toLoadRect (hl h))
        fun (_ : Vec F S1x512x256 .bf16) => .op (.store (Memref.whole cc0_scratch1) (Rect.unit (s := S16x512x256) o ![1, 512, 256] hb') (pay h) Finset.univ (hx h) (hm h))
        fun _ => .op (.enqueueDma (src h) (.remote (Dev.tc (dv h)) (dst h) (.dma (sm h)) (hsc h)) (.dma (sm' h)) (hw1 h) (hw2 h) (hty h)) fun _ => kk) fun _ => kk) Q := by
  subst hs
  unfold runs at hk ⊢
  by_cases hc : cond = 1#1
  · have hd := hcond.mp hc
    rw [dif_pos hc]
    subst ho
    obtain rfl : dv = fun _ => dest c s := funext hdv
    obtain rfl : src = fun _ => ySl s := funext hsrc
    obtain rfl : dst = fun _ => rSl c := funext hdst
    obtain rfl : sm = fun _ => sSem s := funext hsm
    obtain rfl : sm' = fun _ => rSem c := funext hsm'
    rw [hpay hc]
    unfold Mid Owes at *
    iintro ⟨#Hrec, ⟨%W, HO⟩, HS, Hfam, HR⟩
    ihave Hf := (fam_step (sndDone c) (sndTodo c) s) $$ Hfam
    icases Hf with ⟨Hs, Hback⟩
    ihave Hs := (Entails.of_eq (sndTodo_ne c s hd)) $$ Hs
    icases Hs with ⟨Hy, Hr, Ht1, Ht2⟩
    unfold yAny rAny ySlot rSlot
    icases Hy with ⟨%fy, Hy⟩
    icases Hr with ⟨%fd, Hr⟩
    iapply (wp_load 𝒱₀ (c : Thread nD τ) none Set.univ (m := Memref.whole cc0_scratch1) (yset s)) $$ Hy
    iintro Hy
    iapply (wp_store 𝒱₀ (c : Thread nD τ) none Set.univ (m := Memref.whole cc0_scratch1) (r := r3 s) (f := fy) (ysetA s)) $$ Hy
    iintro Hy
    ihave #Hi1 := (Rec_inv m ρ K (c, .inr (.inl s))) $$ Hrec
    ihave #Hi2 := (Rec_inv m ρ K (dest c s, .inr (.inr c))) $$ Hrec
    ihave #Hr1 := (Rec_reached m ρ K (c, .inr (.inl s))) $$ Hrec
    ihave #Hr2 := (Rec_reached m ρ K (dest c s, .inr (.inr c))) $$ Hrec
    iapply (Rounds.wp_send_pointsTo 𝒱₀ ER (Rd m ρ) (c : Thread nD τ) none (c' := (dest c s : Thread nD τ)) (κ₁ := K (c, .inr (.inl s))) (κ₂ := K (dest c s, .inr (.inr c)))
        (sS := .dma (sSem s)) (sem := .dma (rSem c)) (src := ySl s) (dst := rSl c) (r₁ := 0) (r₂ := 0) (d₁ := 0) (d₂ := 0) (fs := outgoing m ρ c s fy) (fd := fd)
        (by rw [duties_send, if_neg hd]; exact Finset.mem_singleton_self _) (by rw [duties_recv, if_neg (fun h => hd h.symm)]; exact Finset.mem_singleton_self _)
        () () N rfl (amount_send m ρ c s 0) (amount_recv m ρ (dest c s) c 0) (O₀ := OR c s.val) (OR c (s.val + 1))
        (by rw [OR_step]; unfold recvDue; rw [if_neg hd])
        (leaves m ρ c s _)
        ((lands m ρ c s fd fy).trans (Entails.of_eq (payload_recv m ρ (dest c s) c 0).symm))) $$ [HO Hy Hr Ht1 Ht2]
    · isplitr; · iexact Hi1
      isplitr; · iexact Hi2
      isplitl [Hy]; · iexact Hy
      isplitl [Hr]; · iexact Hr
      isplitl [HO]; · iexact HO
      isplitl [Ht1]; · iexact Ht1
      isplitr; · iexact Hr1
      isplitl [Ht2]; · iexact Ht2
      iexact Hr2
    iintro ⟨Hcr, HO⟩
    iapply hk
    isplitr; · iexact Hrec
    isplitl [HO]; · iexists _; iexact HO
    isplitl [HS]; · iexact HS
    isplitl [Hcr Hback]
    · iapply Hback; rw [sndDone_ne c s hd]; iexact Hcr
    iexact HR
  · have hd : dest c s = c := by by_contra h; exact hc (hcond.mpr h)
    rw [dif_neg hc]
    unfold Mid at *
    rw [OR_step]
    have hz : recvDue c s = 0 := if_pos hd
    rw [hz, add_zero]
    iintro ⟨#Hrec, HO, HS, Hfam, HR⟩
    ihave Hf := (fam_step (sndDone c) (sndTodo c) s) $$ Hfam
    icases Hf with ⟨Hs, Hback⟩
    ihave Hs := (Entails.of_eq (sndTodo_eq c s hd)) $$ Hs
    icases Hs with ⟨Hy, -⟩
    iapply hk
    isplitr; · iexact Hrec
    isplitl [HO]; · iexact HO
    isplitl [HS]; · iexact HS
    isplitl [Hy Hback]
    · iapply Hback; rw [sndDone_eq c s hd]; iexact Hy
    iexact HR

/-! ## Receiving -/

def rvTodo (r : Dev nD) : sProp 𝕄 :=
  iprop(atPos ER (recvCell c (srcOf c r)) 0 ∅ 0 ∗ (if srcOf c r = c then rAny c c else cred (tallyAt (recvCell c (srcOf c r)) () N)))
def rvDone (r : Dev nD) : sProp 𝕄 := iprop(semVal (recvCell c (srcOf c r)) 0 ∗ rAny c (srcOf c r))
theorem rvTodo_ne (r : Dev nD) (h : srcOf c r ≠ c) : rvTodo (F := F) c r
    = iprop(atPos ER (recvCell c (srcOf c r)) 0 ∅ 0 ∗ cred (tallyAt (recvCell c (srcOf c r)) () N)) := by
  unfold rvTodo; rw [if_neg h]
theorem rvTodo_eq (r : Dev nD) (h : srcOf c r = c) : rvTodo (F := F) c r
    = iprop(atPos ER (recvCell c (srcOf c r)) 0 ∅ 0 ∗ rAny c (srcOf c r)) := by
  unfold rvTodo; rw [if_pos h, h]
/-- The blocks of the result written after `n` places of the order of receiving. -/
def got (n : ℕ) (s : Dev nD) : Prop := s = c ∨ (srcOf c s).val < n
/-- The first `n` tiles received. -/
def RV (R : sProp 𝕄) (n : ℕ) : sProp 𝕄 :=
  iprop(Rec (F := F) m ρ K ∗ Owes c 0 ∗ fam (rvDone c) (rvTodo c) n ∗ Out m ρ c (got c n) ∗ R)

theorem ro_disjoint {s s' : Dev nD} (h : s ≠ s') : Disjoint (ro s).set (ro s').set := by
  refine Rect.disjoint_of_separated _ _ (0 : Fin 2) ?_
  have hv : s.val ≠ s'.val := fun h' => h (Fin.ext h')
  show (_ ∨ 512 * s.val + 1 * (512 - 1) < 512 * s'.val) ∨ (_ ∨ 512 * s'.val + 1 * (512 - 1) < 512 * s.val)
  omega

theorem got_step (n s : Dev nD) (h : got c (n.val + 1) s) (hs : s ≠ srcOf c n) : got c n.val s := by
  rcases h with h | h
  · exact Or.inl h
  · right
    have : (srcOf c s).val ≠ n.val := fun e => hs (by rw [← Fin.ext e, srcOf_srcOf])
    omega

theorem step_recv (R : sProp 𝕄) (r : Dev nD) {n : ℕ} (hs : n = r.val) {cond : BitVec 1} {dec : Decidable (cond = 1#1)} (hcond : cond = 1#1 ↔ srcOf c r ≠ c)
    {α : Type} {Q : α → sProp 𝕄} {kk : Pr F α}
    {sm : cond = 1#1 → DmaSem sig} (hsm : ∀ h, sm h = rSem (srcOf c r))
    {src dst : cond = 1#1 → Memref sig .tc .vmem S512x256 .bf16} (hdst : ∀ h, (dst h).view.dmaCredit = N)
    {hw1 : ∀ h, (src h).view.WordExact} {hw2 : ∀ h, (dst h).view.WordExact}
    {o : cond = 1#1 → Fin 3 → ℕ} (ho : ∀ h, o h = ![(srcOf c r).val, 0, 0])
    {hb : ∀ h a, o h a + (![1, 512, 256] : Fin 3 → ℕ) a ≤ S16x512x256.size a}
    {hl : ∀ h, (Memref.whole cc0_scratch2).view.LoadsAt (Rect.unit (s := S16x512x256) (o h) ![1, 512, 256] (hb h)).toLoadRect}
    {o' : cond = 1#1 → Fin 2 → ℕ} (ho' : ∀ h, o' h = ![512 * (srcOf c r).val, 0])
    {hb' hb'' : ∀ h a, o' h a + (![512, 256] : Fin 2 → ℕ) a ≤ S8192x256.size a}
    {hl' : ∀ h, (Memref.whole cc0_stg1_0).view.LoadsAt (Rect.unit (s := S8192x256) (o' h) ![512, 256] (hb' h)).toLoadRect}
    {pay : cond = 1#1 → Vec F S1x512x256 .bf16 → FVec F S512x256 .f32}
    (hpay : ∀ h, pay h = (k0_pay53 : FVec F S1x512x256 .bf16 → FVec F S512x256 .f32))
    {hx : ∀ h, ((Memref.whole cc0_stg1_0).access (Rect.unit (s := S8192x256) (o' h) ![512, 256] (hb'' h))).Stores Finset.univ}
    {hm : ∀ h, (Finset.univ : Finset (Rect.unit (s := S8192x256) (o' h) ![512, 256] (hb'' h)).shape.Idx) = Finset.univ ∨ ∀ a, (Rect.unit (s := S8192x256) (o' h) ![512, 256] (hb'' h)).stride a = 1}
    (hk : RV m ρ K c R (n + 1) ⊢ runs c kk Q) :
    RV m ρ K c R n ⊢ runs c (@dite _ (cond = 1#1) dec
      (fun h => .op (.waitDma2 (sm h) (src h) (dst h) (hw1 h) (hw2 h))
        fun _ => .op (.load (Memref.whole cc0_scratch2) (Rect.unit (s := S16x512x256) (o h) ![1, 512, 256] (hb h)).toLoadRect (hl h))
        fun (v : Vec F S1x512x256 .bf16) => .op (.load (Memref.whole cc0_stg1_0) (Rect.unit (s := S8192x256) (o' h) ![512, 256] (hb' h)).toLoadRect (hl' h))
        fun (_ : Vec F S512x256 .f32) => .op (.store (Memref.whole cc0_stg1_0) (Rect.unit (s := S8192x256) (o' h) ![512, 256] (hb'' h)) (pay h v) Finset.univ (hx h) (hm h)) fun _ => kk) fun _ => kk) Q := by
  subst hs
  unfold runs at hk ⊢
  by_cases hc : cond = 1#1
  · have hd := hcond.mp hc
    rw [dif_pos hc]
    obtain rfl : o = fun _ => ![(srcOf c r).val, 0, 0] := funext ho
    obtain rfl : o' = fun _ => ![512 * (srcOf c r).val, 0] := funext ho'
    obtain rfl : sm = fun _ => rSem (srcOf c r) := funext hsm
    rw [hpay hc]
    have hN := hdst hc
    unfold RV Owes Out at *
    iintro ⟨#Hrec, ⟨%W, HO⟩, Hfam, ⟨%f, %hf, Hout⟩, HR⟩
    ihave Hf := (fam_step (rvDone c) (rvTodo c) r) $$ Hfam
    icases Hf with ⟨Hs, Hback⟩
    ihave Hs := (Entails.of_eq (rvTodo_ne c r hd)) $$ Hs
    icases Hs with ⟨Hat, Hst⟩
    ihave #Hinv := (Rec_inv m ρ K (c, .inr (.inr (srcOf c r)))) $$ Hrec
    iapply (Rounds.wp_wait_rest_token 𝒱₀ ER (Rd m ρ) (c : Thread nD τ) none (κ := K (c, .inr (.inr (srcOf c r)))) (sm := .dma (rSem (srcOf c r)))
      (wpE_waitDma2_eq 𝒱₀ (c : Thread nD τ) none Set.univ) (Set.mem_univ _) () (O := 0) (W := W) (R := 0) (m := 0) (T := ∅)
      (by rw [Nat.zero_add, hN, expect_recv m ρ c (srcOf c r) hd])) $$ [Hst HO Hat]
    · isplitr; · iexact Hinv
      isplitl [Hst]; · rw [hN]; iexact Hst
      isplitl [HO]; · iexact HO
      isplitr; · rw [MayWait_zero]; iempintro
      iexact Hat
    iintro ⟨HO, Hat, -, Hpay⟩
    ihave Hy := (Entails.of_eq (rest_recv m ρ c (srcOf c r) hd)) $$ Hpay
    imod (close_cell m ρ K (c, .inr (.inr (srcOf c r))) 1 (duties_later m ρ _)) $$ [Hat] with Hz
    · isplitr; · iexact Hrec
      iexact Hat
    unfold recvPay rSlot
    icases Hy with ⟨%fr, %hfr, Hr⟩
    iapply (wp_load 𝒱₀ (c : Thread nD τ) none Set.univ (m := Memref.whole cc0_scratch2) (rset (srcOf c r))) $$ Hr
    iintro Hr
    have hv : (Memref.whole cc0_scratch2).view.readAt (Elt F) (r3 (srcOf c r)).toLoadRect fr = sent m ρ (srcOf c r) c := hfr
    rw [hv]
    iapply (wp_load 𝒱₀ (c : Thread nD τ) none Set.univ (m := Memref.whole cc0_stg1_0) (Finset.subset_univ _)) $$ Hout
    iintro Hout
    iapply (wp_store 𝒱₀ (c : Thread nD τ) none Set.univ (m := Memref.whole cc0_stg1_0) (r := ro (srcOf c r)) (S := Finset.univ) (f := f) (Finset.subset_univ _)) $$ Hout
    iintro Hout
    iapply hk
    isplitr; · iexact Hrec
    isplitl [HO]; · iexists _; iexact HO
    isplitl [Hz Hr Hback]
    · iapply Hback; unfold rvDone rAny rSlot; isplitl [Hz]; · iexact Hz
      iexists fr; iexact Hr
    isplitl [Hout]
    · iexists _
      isplitr
      rotate_left
      · iexact Hout
      · ipureintro
        intro s' hs'
        by_cases hss : s' = srcOf c r
        · rw [hss]
          refine (View.read_write_univ _ _).trans ?_
          unfold outBlk
          rw [if_neg hd]
        · refine (View.read_slice_write_slice_of_disjoint _ _ _ _ _ ?_).trans (hf s' (got_step c r s' hs' hss))
          exact View.disjoint_slice (ro_disjoint hss)
    iexact HR
  · have hd : srcOf c r = c := by by_contra h; exact hc (hcond.mpr h)
    rw [dif_neg hc]
    unfold RV at *
    iintro ⟨#Hrec, HO, Hfam, Hout, HR⟩
    ihave Hf := (fam_step (rvDone c) (rvTodo c) r) $$ Hfam
    icases Hf with ⟨Hs, Hback⟩
    ihave Hs := (Entails.of_eq (rvTodo_eq c r hd)) $$ Hs
    icases Hs with ⟨Hat, Hst⟩
    imod (close_cell m ρ K (c, .inr (.inr (srcOf c r))) 0 (duties_none m ρ ((duties_recv m ρ c (srcOf c r)).trans (if_pos hd)))) $$ [Hat] with Hz
    · isplitr; · iexact Hrec
      iexact Hat
    iapply hk
    isplitr; · iexact Hrec
    isplitl [HO]; · iexact HO
    isplitl [Hz Hst Hback]
    · iapply Hback; unfold rvDone; isplitl [Hz]; · iexact Hz
      iexact Hst
    isplitl [Hout]
    · iapply (Out_mono m ρ c (P := got c r.val) (P' := got c (r.val + 1)) fun s' h => by
        by_cases hss : s' = srcOf c r
        · exact Or.inl (hss.trans hd)
        · exact got_step c r s' h hss) $$ Hout
    iexact HR

end Cert.Exchange
-- ==== Proof.BodyA.lean ====
module

public import proofs.«01_k».proof.Proof.Moves

/-!
# A device's body, part by part: the first column group
-/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## The landing slots by name -/

/-- What the two landing slots are doing. -/
def ws (a b : WS) : Fin 2 → WS
  | 0 => a
  | 1 => b
theorem ws_0 {a a' b : WS} : ∀ j, j ≠ 0 → ws a' b j = ws a b j := fun j hj => by
  fin_cases j
  · exact absurd rfl hj
  · rfl
theorem ws_1 {a b b' : WS} : ∀ j, j ≠ 1 → ws a b' j = ws a b j := fun j hj => by
  fin_cases j
  · rfl
  · exact absurd rfl hj

theorem ret_run {P : sProp 𝕄} {α : Type} {a : α} {Q : α → sProp 𝕄} (h : P ⊢ Q a) : P ⊢ runs c (.ret a : Pr F α) Q := by
  unfold runs; rw [wp_ret]
  refine h.trans ?_
  iintro H; imodintro; iexact H

/-- The running sums of column group `g`. -/
def A1 (g : Fin 4) : FVec F S512x1024 .f32 := k0_pay1 (xv m ρ c 0) (wv m c 0 g)
def A2 (g : Fin 4) : FVec F S512x1024 .f32 := k0_pay2 (A1 m ρ c g) (xv m ρ c 1) (wv m c 1 g)
def A3 (g : Fin 4) : FVec F S512x1024 .f32 := k0_pay3 (A2 m ρ c g) (xv m ρ c 2) (wv m c 2 g)

theorem part3_run (R : sProp 𝕄) (v3 : BitVec 32) {Q : (Σ' (v70 : BitVec 32), FVec F S512x1024 .f32) → sProp 𝕄}
    (hQ : ∀ v70, Mid m ρ K c R (ws (.ready 0 (gOf c 0)) (.fly 1 (gOf c 0))) 0 0 ⊢ Q ⟨v70, (A1 m ρ c (gOf c 0))⟩) :
    Mid m ρ K c R (ws .idle .idle) 0 0 ⊢ runs c (k0_part3_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3) Q := by
  unfold k0_part3_skel
  simp only [Prog.lift, Prog.bind_op, Prog.bind_ret, Prog.pure_eq_ret]
  with_reducible refine step_start m ρ K c R (ws (.fly 0 (gOf c 0)) .idle) 0 0 (gOf c 0) ?_ rfl ws_0 ?_ ?_ ?_ ?_
  · trivial
  · exact srcM_eq (k0_off1_eq c 0)
  · rfl
  · rfl
  with_reducible refine step_start m ρ K c R (ws (.fly 0 (gOf c 0)) (.fly 1 (gOf c 0))) 1 1 (gOf c 0) ?_ rfl ws_1 ?_ ?_ ?_ ?_
  · trivial
  · exact srcM_eq (k0_off2_eq c 0)
  · rfl
  · rfl
  with_reducible refine step_wait m ρ K c R (ws (.ready 0 (gOf c 0)) (.fly 1 (gOf c 0))) 0 0 (gOf c 0) rfl rfl ws_0 ?_ ?_ ?_
  · rfl
  · rfl
  with_reducible refine step_loadx m ρ K c R 0 ?_ ?_
  · rfl
  with_reducible refine step_loadw m ρ K c R 0 0 (gOf c 0) rfl ?_ ?_
  · rfl
  exact ret_run c (hQ _)

theorem part4_run (R : sProp 𝕄) (v3 : BitVec 32) {Q : (Σ' (v105 : FVec F S512x1024 .f32) (v114 : BitVec 32), BitVec 32) → sProp 𝕄}
    (hQ : ∀ v114 v, Mid m ρ K c R (ws (.fly 2 (gOf c 0)) (.fly 3 (gOf c 0))) 0 0 ⊢ Q ⟨(A2 m ρ c (gOf c 0)), v114, v⟩) :
    Mid m ρ K c R (ws (.ready 0 (gOf c 0)) (.fly 1 (gOf c 0))) 0 0 ⊢ runs c (k0_part4_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3 (A1 m ρ c (gOf c 0))) Q := by
  unfold k0_part4_skel
  simp only [Prog.lift, Prog.bind_op, Prog.bind_ret, Prog.pure_eq_ret]
  with_reducible refine step_start m ρ K c R (ws (.fly 2 (gOf c 0)) (.fly 1 (gOf c 0))) 0 2 (gOf c 0) ?_ rfl ws_0 ?_ ?_ ?_ ?_
  · trivial
  · exact srcM_eq (k0_off3_eq c 0)
  · rfl
  · rfl
  with_reducible refine step_wait m ρ K c R (ws (.fly 2 (gOf c 0)) (.ready 1 (gOf c 0))) 1 1 (gOf c 0) rfl rfl ws_1 ?_ ?_ ?_
  · rfl
  · rfl
  with_reducible refine step_loadx m ρ K c R 1 ?_ ?_
  · rfl
  with_reducible refine step_loadw m ρ K c R 1 1 (gOf c 0) rfl ?_ ?_
  · rfl
  with_reducible refine step_start m ρ K c R (ws (.fly 2 (gOf c 0)) (.fly 3 (gOf c 0))) 1 3 (gOf c 0) ?_ rfl ws_1 ?_ ?_ ?_ ?_
  · trivial
  · exact srcM_eq (k0_off4_eq c 0)
  · rfl
  · rfl
  exact ret_run c (hQ _ _)

theorem part5_run (R : sProp 𝕄) (v3 v114 v : BitVec 32) {Q : FVec F S512x1024 .f32 → sProp 𝕄}
    (hQ : Mid m ρ K c R (ws (.fly 0 (gOf c 1)) (.ready 3 (gOf c 0))) 0 0 ⊢ Q (A3 m ρ c (gOf c 0))) :
    Mid m ρ K c R (ws (.fly 2 (gOf c 0)) (.fly 3 (gOf c 0))) 0 0 ⊢ runs c (k0_part5_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3 (A2 m ρ c (gOf c 0)) v114 v) Q := by
  unfold k0_part5_skel
  simp only [Prog.lift, Prog.bind_op, Prog.bind_ret, Prog.pure_eq_ret]
  with_reducible refine step_wait m ρ K c R (ws (.ready 2 (gOf c 0)) (.fly 3 (gOf c 0))) 0 2 (gOf c 0) rfl rfl ws_0 ?_ ?_ ?_
  · rfl
  · rfl
  with_reducible refine step_loadx m ρ K c R 2 ?_ ?_
  · rfl
  with_reducible refine step_loadw m ρ K c R 0 2 (gOf c 0) rfl ?_ ?_
  · rfl
  with_reducible refine step_start m ρ K c R (ws (.fly 0 (gOf c 1)) (.fly 3 (gOf c 0))) 0 0 (gOf c 1) ?_ rfl ws_0 ?_ ?_ ?_ ?_
  · trivial
  · exact srcM_eq (k0_off1_eq c 1)
  · rfl
  · rfl
  with_reducible refine step_wait m ρ K c R (ws (.fly 0 (gOf c 1)) (.ready 3 (gOf c 0))) 1 3 (gOf c 0) rfl rfl ws_1 ?_ ?_ ?_
  · rfl
  · rfl
  exact ret_run c hQ

theorem part6_run (R : sProp 𝕄) (v2 v3 v70 : BitVec 32) {Q : (Σ' (v170 : FVec F S512x1024 .f32) (v172 : BitVec 32), FVec F S512x256 .f32) → sProp 𝕄}
    (hQ : ∀ v172, Mid m ρ K c R (ws (.fly 0 (gOf c 1)) (.fly 1 (gOf c 1))) 0 1 ⊢ Q ⟨(yFull m ρ c (gOf c 0)), v172, (tile (yFull m ρ c (gOf c 0)) 0)⟩) :
    Mid m ρ K c R (ws (.fly 0 (gOf c 1)) (.ready 3 (gOf c 0))) 0 0 ⊢ runs c (k0_part6_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v70 (A3 m ρ c (gOf c 0))) Q := by
  unfold k0_part6_skel
  simp only [Prog.lift, Prog.bind_op, Prog.bind_ret, Prog.pure_eq_ret]
  with_reducible refine step_loadx m ρ K c R 3 ?_ ?_
  · rfl
  with_reducible refine step_loadw m ρ K c R 1 3 (gOf c 0) rfl ?_ ?_
  · rfl
  with_reducible refine step_start m ρ K c R (ws (.fly 0 (gOf c 1)) (.fly 1 (gOf c 1))) 1 1 (gOf c 1) ?_ rfl ws_1 ?_ ?_ ?_ ?_
  · trivial
  · exact srcM_eq (k0_off2_eq c 1)
  · rfl
  · rfl
  with_reducible refine step_own m ρ K c R 0 ?_ ?_ ?_ ?_ ?_
  · rfl
  · exact (by decide +kernel : ∀ d : Dev nD, k0_cond17 d = 1#1 ↔ dest d 0 = d) c
  · exact fun _ => k0_off5_eq c
  · exact fun _ => rfl
  exact ret_run c (hQ _)

theorem part7_run (R : sProp 𝕄) (v2 v3 v70 v172 : BitVec 32) {Q : BitVec 32 → sProp 𝕄}
    (hQ : ∀ v208, Mid m ρ K c R (ws (.fly 0 (gOf c 1)) (.fly 1 (gOf c 1))) 4 4 ⊢ Q v208) :
    Mid m ρ K c R (ws (.fly 0 (gOf c 1)) (.fly 1 (gOf c 1))) 0 1 ⊢ runs c (k0_part7_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v70 (yFull m ρ c (gOf c 0)) v172 (tile (yFull m ρ c (gOf c 0)) 0)) Q := by
  unfold k0_part7_skel
  simp only [Prog.lift, Prog.bind_op, Prog.bind_ret, Prog.pure_eq_ret]
  with_reducible refine step_send m ρ K c R 0 ?_ ?_ ?_ ?_ ?_ ?_ ?_ ?_ ?_ ?_
  · rfl
  · exact (by decide +kernel : ∀ d : Dev nD, k0_cond18 d = 1#1 ↔ dest d 0 ≠ d) c
  · rfl
  · exact fun _ => rfl
  · exact fun _ => Fin.ext ((by decide +kernel : ∀ d : Dev nD, k0_dev17 d = (dest d 0).val) c)
  · exact fun _ => rfl
  · exact fun _ => rSl_eq (k0_off7_eq c)
  · exact fun _ => sSem_at 0
  · exact fun _ => rSem_eq (k0_off6_eq c)
  with_reducible refine step_own m ρ K c R 1 ?_ ?_ ?_ ?_ ?_
  · rfl
  · exact (by decide +kernel : ∀ d : Dev nD, k0_cond19 d = 1#1 ↔ dest d 1 = d) c
  · exact fun _ => k0_off8_eq c
  · exact fun _ => rfl
  with_reducible refine step_send m ρ K c R 1 ?_ ?_ ?_ ?_ ?_ ?_ ?_ ?_ ?_ ?_
  · rfl
  · exact (by decide +kernel : ∀ d : Dev nD, k0_cond20 d = 1#1 ↔ dest d 1 ≠ d) c
  · rfl
  · exact fun _ => rfl
  · exact fun _ => Fin.ext ((by decide +kernel : ∀ d : Dev nD, k0_dev18 d = (dest d 1).val) c)
  · exact fun _ => rfl
  · exact fun _ => rSl_eq (k0_off10_eq c)
  · exact fun _ => sSem_at 1
  · exact fun _ => rSem_eq (k0_off9_eq c)
  with_reducible refine step_own m ρ K c R 2 ?_ ?_ ?_ ?_ ?_
  · rfl
  · exact (by decide +kernel : ∀ d : Dev nD, k0_cond21 d = 1#1 ↔ dest d 2 = d) c
  · exact fun _ => k0_off11_eq c
  · exact fun _ => rfl
  with_reducible refine step_send m ρ K c R 2 ?_ ?_ ?_ ?_ ?_ ?_ ?_ ?_ ?_ ?_
  · rfl
  · exact (by decide +kernel : ∀ d : Dev nD, k0_cond22 d = 1#1 ↔ dest d 2 ≠ d) c
  · rfl
  · exact fun _ => rfl
  · exact fun _ => Fin.ext ((by decide +kernel : ∀ d : Dev nD, k0_dev19 d = (dest d 2).val) c)
  · exact fun _ => rfl
  · exact fun _ => rSl_eq (k0_off13_eq c)
  · exact fun _ => sSem_at 2
  · exact fun _ => rSem_eq (k0_off12_eq c)
  with_reducible refine step_own m ρ K c R 3 ?_ ?_ ?_ ?_ ?_
  · rfl
  · exact (by decide +kernel : ∀ d : Dev nD, k0_cond23 d = 1#1 ↔ dest d 3 = d) c
  · exact fun _ => k0_off14_eq c
  · exact fun _ => rfl
  with_reducible refine step_send m ρ K c R 3 ?_ ?_ ?_ ?_ ?_ ?_ ?_ ?_ ?_ ?_
  · rfl
  · exact (by decide +kernel : ∀ d : Dev nD, k0_cond24 d = 1#1 ↔ dest d 3 ≠ d) c
  · rfl
  · exact fun _ => rfl
  · exact fun _ => Fin.ext ((by decide +kernel : ∀ d : Dev nD, k0_dev20 d = (dest d 3).val) c)
  · exact fun _ => rfl
  · exact fun _ => rSl_eq (k0_off16_eq c)
  · exact fun _ => sSem_at 3
  · exact fun _ => rSem_eq (k0_off15_eq c)
  exact ret_run c (hQ _)

end Cert.Exchange
-- ==== Proof.BodyB.lean ====
module

public import proofs.«01_k».proof.Proof.BodyA

/-!
# A device's body, part by part: the second and the third column group
-/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

theorem part8_run (R : sProp 𝕄) (v3 : BitVec 32) {Q : (Σ' (v221 : FVec F S512x1024 .f32) (v239 : FVec F S512x2048 .bf16), Vec F S1x2048x1024 .bf16) → sProp 𝕄}
    (hQ : Mid m ρ K c R (ws (.fly 2 (gOf c 1)) (.ready 1 (gOf c 1))) 4 4 ⊢ Q ⟨(A1 m ρ c (gOf c 1)), k0_pay14 (xv m ρ c 1), (wv m c 1 (gOf c 1))⟩) :
    Mid m ρ K c R (ws (.fly 0 (gOf c 1)) (.fly 1 (gOf c 1))) 4 4 ⊢ runs c (k0_part8_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3) Q := by
  unfold k0_part8_skel
  simp only [Prog.lift, Prog.bind_op, Prog.bind_ret, Prog.pure_eq_ret]
  with_reducible refine step_wait m ρ K c R (ws (.ready 0 (gOf c 1)) (.fly 1 (gOf c 1))) 0 0 (gOf c 1) rfl rfl ws_0 ?_ ?_ ?_
  · rfl
  · rfl
  with_reducible refine step_loadx m ρ K c R 0 ?_ ?_
  · rfl
  with_reducible refine step_loadw m ρ K c R 0 0 (gOf c 1) rfl ?_ ?_
  · rfl
  with_reducible refine step_start m ρ K c R (ws (.fly 2 (gOf c 1)) (.fly 1 (gOf c 1))) 0 2 (gOf c 1) ?_ rfl ws_0 ?_ ?_ ?_ ?_
  · trivial
  · exact srcM_eq (k0_off3_eq c 1)
  · rfl
  · rfl
  with_reducible refine step_wait m ρ K c R (ws (.fly 2 (gOf c 1)) (.ready 1 (gOf c 1))) 1 1 (gOf c 1) rfl rfl ws_1 ?_ ?_ ?_
  · rfl
  · rfl
  with_reducible refine step_loadx m ρ K c R 1 ?_ ?_
  · rfl
  with_reducible refine step_loadw m ρ K c R 1 1 (gOf c 1) rfl ?_ ?_
  · rfl
  exact ret_run c hQ

theorem part9_run (R : sProp 𝕄) (v3 : BitVec 32) {Q : FVec F S512x1024 .f32 → sProp 𝕄}
    (hQ : Mid m ρ K c R (ws (.ready 2 (gOf c 1)) (.fly 3 (gOf c 1))) 4 4 ⊢ Q (A3 m ρ c (gOf c 1))) :
    Mid m ρ K c R (ws (.fly 2 (gOf c 1)) (.ready 1 (gOf c 1))) 4 4 ⊢ runs c (k0_part9_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3 (A1 m ρ c (gOf c 1)) (k0_pay14 (xv m ρ c 1)) (wv m c 1 (gOf c 1))) Q := by
  unfold k0_part9_skel
  simp only [Prog.lift, Prog.bind_op, Prog.bind_ret, Prog.pure_eq_ret]
  with_reducible refine step_start m ρ K c R (ws (.fly 2 (gOf c 1)) (.fly 3 (gOf c 1))) 1 3 (gOf c 1) ?_ rfl ws_1 ?_ ?_ ?_ ?_
  · trivial
  · exact srcM_eq (k0_off4_eq c 1)
  · rfl
  · rfl
  with_reducible refine step_wait m ρ K c R (ws (.ready 2 (gOf c 1)) (.fly 3 (gOf c 1))) 0 2 (gOf c 1) rfl rfl ws_0 ?_ ?_ ?_
  · rfl
  · rfl
  with_reducible refine step_loadx m ρ K c R 2 ?_ ?_
  · rfl
  with_reducible refine step_loadw m ρ K c R 0 2 (gOf c 1) rfl ?_ ?_
  · rfl
  exact ret_run c hQ

theorem part10_run (R : sProp 𝕄) (v3 : BitVec 32) {Q : (Σ' (v287 : FVec F S512x1024 .f32) (v297 : FVec F S512x1024 .f32), FVec F S512x1024 .f32) → sProp 𝕄}
    (hQ : Mid m ρ K c R (ws (.fly 0 (gOf c 2)) (.fly 1 (gOf c 2))) 4 4 ⊢ Q ⟨(k0_pay16 (A3 m ρ c (gOf c 1)) (xv m ρ c 3) (wv m c 3 (gOf c 1))), (k0_pay17 (A3 m ρ c (gOf c 1)) (xv m ρ c 3) (wv m c 3 (gOf c 1))), (k0_pay18 (A3 m ρ c (gOf c 1)) (xv m ρ c 3) (wv m c 3 (gOf c 1)))⟩) :
    Mid m ρ K c R (ws (.ready 2 (gOf c 1)) (.fly 3 (gOf c 1))) 4 4 ⊢ runs c (k0_part10_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3 (A3 m ρ c (gOf c 1))) Q := by
  unfold k0_part10_skel
  simp only [Prog.lift, Prog.bind_op, Prog.bind_ret, Prog.pure_eq_ret]
  with_reducible refine step_start m ρ K c R (ws (.fly 0 (gOf c 2)) (.fly 3 (gOf c 1))) 0 0 (gOf c 2) ?_ rfl ws_0 ?_ ?_ ?_ ?_
  · trivial
  · exact srcM_eq (k0_off1_eq c 2)
  · rfl
  · rfl
  with_reducible refine step_wait m ρ K c R (ws (.fly 0 (gOf c 2)) (.ready 3 (gOf c 1))) 1 3 (gOf c 1) rfl rfl ws_1 ?_ ?_ ?_
  · rfl
  · rfl
  with_reducible refine step_loadx m ρ K c R 3 ?_ ?_
  · rfl
  with_reducible refine step_loadw m ρ K c R 1 3 (gOf c 1) rfl ?_ ?_
  · rfl
  with_reducible refine step_start m ρ K c R (ws (.fly 0 (gOf c 2)) (.fly 1 (gOf c 2))) 1 1 (gOf c 2) ?_ rfl ws_1 ?_ ?_ ?_ ?_
  · trivial
  · exact srcM_eq (k0_off2_eq c 2)
  · rfl
  · rfl
  exact ret_run c hQ

theorem part11_run (R : sProp 𝕄) (v2 v208 : BitVec 32) {Q : (Σ' (v337 : BitVec 32), FVec F S512x256 .f32) → sProp 𝕄}
    (hQ : ∀ v337, Mid m ρ K c R (ws (.fly 0 (gOf c 2)) (.fly 1 (gOf c 2))) 7 7 ⊢ Q ⟨v337, (tile (yFull m ρ c (gOf c 1)) 3)⟩) :
    Mid m ρ K c R (ws (.fly 0 (gOf c 2)) (.fly 1 (gOf c 2))) 4 4 ⊢ runs c (k0_part11_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v208 (k0_pay16 (A3 m ρ c (gOf c 1)) (xv m ρ c 3) (wv m c 3 (gOf c 1))) (k0_pay17 (A3 m ρ c (gOf c 1)) (xv m ρ c 3) (wv m c 3 (gOf c 1))) (k0_pay18 (A3 m ρ c (gOf c 1)) (xv m ρ c 3) (wv m c 3 (gOf c 1)))) Q := by
  unfold k0_part11_skel
  simp only [Prog.lift, Prog.bind_op, Prog.bind_ret, Prog.pure_eq_ret]
  with_reducible refine step_own m ρ K c R 4 ?_ ?_ ?_ ?_ ?_
  · rfl
  · exact (by decide +kernel : ∀ d : Dev nD, k0_cond25 d = 1#1 ↔ dest d 4 = d) c
  · exact fun _ => k0_off17_eq c
  · exact fun _ => rfl
  with_reducible refine step_send m ρ K c R 4 ?_ ?_ ?_ ?_ ?_ ?_ ?_ ?_ ?_ ?_
  · rfl
  · exact (by decide +kernel : ∀ d : Dev nD, k0_cond26 d = 1#1 ↔ dest d 4 ≠ d) c
  · rfl
  · exact fun _ => rfl
  · exact fun _ => Fin.ext ((by decide +kernel : ∀ d : Dev nD, k0_dev21 d = (dest d 4).val) c)
  · exact fun _ => rfl
  · exact fun _ => rSl_eq (k0_off19_eq c)
  · exact fun _ => sSem_at 4
  · exact fun _ => rSem_eq (k0_off18_eq c)
  with_reducible refine step_own m ρ K c R 5 ?_ ?_ ?_ ?_ ?_
  · rfl
  · exact (by decide +kernel : ∀ d : Dev nD, k0_cond27 d = 1#1 ↔ dest d 5 = d) c
  · exact fun _ => k0_off20_eq c
  · exact fun _ => rfl
  with_reducible refine step_send m ρ K c R 5 ?_ ?_ ?_ ?_ ?_ ?_ ?_ ?_ ?_ ?_
  · rfl
  · exact (by decide +kernel : ∀ d : Dev nD, k0_cond28 d = 1#1 ↔ dest d 5 ≠ d) c
  · rfl
  · exact fun _ => rfl
  · exact fun _ => Fin.ext ((by decide +kernel : ∀ d : Dev nD, k0_dev22 d = (dest d 5).val) c)
  · exact fun _ => rfl
  · exact fun _ => rSl_eq (k0_off22_eq c)
  · exact fun _ => sSem_at 5
  · exact fun _ => rSem_eq (k0_off21_eq c)
  with_reducible refine step_own m ρ K c R 6 ?_ ?_ ?_ ?_ ?_
  · rfl
  · exact (by decide +kernel : ∀ d : Dev nD, k0_cond29 d = 1#1 ↔ dest d 6 = d) c
  · exact fun _ => k0_off23_eq c
  · exact fun _ => rfl
  with_reducible refine step_send m ρ K c R 6 ?_ ?_ ?_ ?_ ?_ ?_ ?_ ?_ ?_ ?_
  · rfl
  · exact (by decide +kernel : ∀ d : Dev nD, k0_cond30 d = 1#1 ↔ dest d 6 ≠ d) c
  · rfl
  · exact fun _ => rfl
  · exact fun _ => Fin.ext ((by decide +kernel : ∀ d : Dev nD, k0_dev23 d = (dest d 6).val) c)
  · exact fun _ => rfl
  · exact fun _ => rSl_eq (k0_off25_eq c)
  · exact fun _ => sSem_at 6
  · exact fun _ => rSem_eq (k0_off24_eq c)
  exact ret_run c (hQ _)

theorem part12_run (R : sProp 𝕄) (v2 v3 v337 : BitVec 32) {Q : (Σ' (v346 : BitVec 32) (v359 : FVec F S512x1024 .f32), BitVec 32) → sProp 𝕄}
    (hQ : ∀ v346 v, Mid m ρ K c R (ws (.fly 2 (gOf c 2)) (.fly 1 (gOf c 2))) 8 8 ⊢ Q ⟨v346, (A1 m ρ c (gOf c 2)), v⟩) :
    Mid m ρ K c R (ws (.fly 0 (gOf c 2)) (.fly 1 (gOf c 2))) 7 7 ⊢ runs c (k0_part12_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v337 (tile (yFull m ρ c (gOf c 1)) 3)) Q := by
  unfold k0_part12_skel
  simp only [Prog.lift, Prog.bind_op, Prog.bind_ret, Prog.pure_eq_ret]
  with_reducible refine step_own m ρ K c R 7 ?_ ?_ ?_ ?_ ?_
  · rfl
  · exact (by decide +kernel : ∀ d : Dev nD, k0_cond31 d = 1#1 ↔ dest d 7 = d) c
  · exact fun _ => k0_off26_eq c
  · exact fun _ => rfl
  with_reducible refine step_send m ρ K c R 7 ?_ ?_ ?_ ?_ ?_ ?_ ?_ ?_ ?_ ?_
  · rfl
  · exact (by decide +kernel : ∀ d : Dev nD, k0_cond32 d = 1#1 ↔ dest d 7 ≠ d) c
  · rfl
  · exact fun _ => rfl
  · exact fun _ => Fin.ext ((by decide +kernel : ∀ d : Dev nD, k0_dev24 d = (dest d 7).val) c)
  · exact fun _ => rfl
  · exact fun _ => rSl_eq (k0_off28_eq c)
  · exact fun _ => sSem_at 7
  · exact fun _ => rSem_eq (k0_off27_eq c)
  with_reducible refine step_wait m ρ K c R (ws (.ready 0 (gOf c 2)) (.fly 1 (gOf c 2))) 0 0 (gOf c 2) rfl rfl ws_0 ?_ ?_ ?_
  · rfl
  · rfl
  with_reducible refine step_loadx m ρ K c R 0 ?_ ?_
  · rfl
  with_reducible refine step_loadw m ρ K c R 0 0 (gOf c 2) rfl ?_ ?_
  · rfl
  with_reducible refine step_start m ρ K c R (ws (.fly 2 (gOf c 2)) (.fly 1 (gOf c 2))) 0 2 (gOf c 2) ?_ rfl ws_0 ?_ ?_ ?_ ?_
  · trivial
  · exact srcM_eq (k0_off3_eq c 2)
  · rfl
  · rfl
  exact ret_run c (hQ _ _)

theorem part13_run (R : sProp 𝕄) (v3 v : BitVec 32) {Q : FVec F S512x1024 .f32 → sProp 𝕄}
    (hQ : Mid m ρ K c R (ws (.fly 2 (gOf c 2)) (.fly 3 (gOf c 2))) 8 8 ⊢ Q (A2 m ρ c (gOf c 2))) :
    Mid m ρ K c R (ws (.fly 2 (gOf c 2)) (.fly 1 (gOf c 2))) 8 8 ⊢ runs c (k0_part13_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3 (A1 m ρ c (gOf c 2)) v) Q := by
  unfold k0_part13_skel
  simp only [Prog.lift, Prog.bind_op, Prog.bind_ret, Prog.pure_eq_ret]
  with_reducible refine step_wait m ρ K c R (ws (.fly 2 (gOf c 2)) (.ready 1 (gOf c 2))) 1 1 (gOf c 2) rfl rfl ws_1 ?_ ?_ ?_
  · rfl
  · rfl
  with_reducible refine step_loadx m ρ K c R 1 ?_ ?_
  · rfl
  with_reducible refine step_loadw m ρ K c R 1 1 (gOf c 2) rfl ?_ ?_
  · rfl
  with_reducible refine step_start m ρ K c R (ws (.fly 2 (gOf c 2)) (.fly 3 (gOf c 2))) 1 3 (gOf c 2) ?_ rfl ws_1 ?_ ?_ ?_ ?_
  · trivial
  · exact srcM_eq (k0_off4_eq c 2)
  · rfl
  · rfl
  exact ret_run c hQ

theorem part14_run (R : sProp 𝕄) (v3 : BitVec 32) {Q : FVec F S512x1024 .f32 → sProp 𝕄}
    (hQ : Mid m ρ K c R (ws (.fly 0 (gOf c 3)) (.ready 3 (gOf c 2))) 8 8 ⊢ Q (k0_pay30 (A2 m ρ c (gOf c 2)) (xv m ρ c 2) (wv m c 2 (gOf c 2)) (xv m ρ c 3) (wv m c 3 (gOf c 2)))) :
    Mid m ρ K c R (ws (.fly 2 (gOf c 2)) (.fly 3 (gOf c 2))) 8 8 ⊢ runs c (k0_part14_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3 (A2 m ρ c (gOf c 2))) Q := by
  unfold k0_part14_skel
  simp only [Prog.lift, Prog.bind_op, Prog.bind_ret, Prog.pure_eq_ret]
  with_reducible refine step_wait m ρ K c R (ws (.ready 2 (gOf c 2)) (.fly 3 (gOf c 2))) 0 2 (gOf c 2) rfl rfl ws_0 ?_ ?_ ?_
  · rfl
  · rfl
  with_reducible refine step_loadx m ρ K c R 2 ?_ ?_
  · rfl
  with_reducible refine step_loadw m ρ K c R 0 2 (gOf c 2) rfl ?_ ?_
  · rfl
  with_reducible refine step_start m ρ K c R (ws (.fly 0 (gOf c 3)) (.fly 3 (gOf c 2))) 0 0 (gOf c 3) ?_ rfl ws_0 ?_ ?_ ?_ ?_
  · trivial
  · exact srcM_eq (k0_off1_eq c 3)
  · rfl
  · rfl
  with_reducible refine step_wait m ρ K c R (ws (.fly 0 (gOf c 3)) (.ready 3 (gOf c 2))) 1 3 (gOf c 2) rfl rfl ws_1 ?_ ?_ ?_
  · rfl
  · rfl
  with_reducible refine step_loadx m ρ K c R 3 ?_ ?_
  · rfl
  with_reducible refine step_loadw m ρ K c R 1 3 (gOf c 2) rfl ?_ ?_
  · rfl
  exact ret_run c hQ

theorem part15_run (R : sProp 𝕄) (v2 v3 v346 : BitVec 32) {Q : (Σ' (v446 : FVec F S512x1024 .f32) (v457 : BitVec 32) (v458 : FVec F S512x256 .f32), BitVec 1) → sProp 𝕄}
    (hQ : ∀ v457 v462, Mid m ρ K c R (ws (.fly 0 (gOf c 3)) (.fly 1 (gOf c 3))) 9 10 ⊢ Q ⟨(yFull m ρ c (gOf c 2)), v457, (tile (yFull m ρ c (gOf c 2)) 1), v462⟩) :
    Mid m ρ K c R (ws (.fly 0 (gOf c 3)) (.ready 3 (gOf c 2))) 8 8 ⊢ runs c (k0_part15_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v346 (k0_pay30 (A2 m ρ c (gOf c 2)) (xv m ρ c 2) (wv m c 2 (gOf c 2)) (xv m ρ c 3) (wv m c 3 (gOf c 2)))) Q := by
  unfold k0_part15_skel
  simp only [Prog.lift, Prog.bind_op, Prog.bind_ret, Prog.pure_eq_ret]
  with_reducible refine step_start m ρ K c R (ws (.fly 0 (gOf c 3)) (.fly 1 (gOf c 3))) 1 1 (gOf c 3) ?_ rfl ws_1 ?_ ?_ ?_ ?_
  · trivial
  · exact srcM_eq (k0_off2_eq c 3)
  · rfl
  · rfl
  with_reducible refine step_own m ρ K c R 8 ?_ ?_ ?_ ?_ ?_
  · rfl
  · exact (by decide +kernel : ∀ d : Dev nD, k0_cond33 d = 1#1 ↔ dest d 8 = d) c
  · exact fun _ => k0_off29_eq c
  · exact fun _ => rfl
  with_reducible refine step_send m ρ K c R 8 ?_ ?_ ?_ ?_ ?_ ?_ ?_ ?_ ?_ ?_
  · rfl
  · exact (by decide +kernel : ∀ d : Dev nD, k0_cond34 d = 1#1 ↔ dest d 8 ≠ d) c
  · rfl
  · exact fun _ => rfl
  · exact fun _ => Fin.ext ((by decide +kernel : ∀ d : Dev nD, k0_dev25 d = (dest d 8).val) c)
  · exact fun _ => rfl
  · exact fun _ => rSl_eq (k0_off31_eq c)
  · exact fun _ => sSem_at 8
  · exact fun _ => rSem_eq (k0_off30_eq c)
  with_reducible refine step_own m ρ K c R 9 ?_ ?_ ?_ ?_ ?_
  · rfl
  · exact (by decide +kernel : ∀ d : Dev nD, k0_cond35 d = 1#1 ↔ dest d 9 = d) c
  · exact fun _ => k0_off32_eq c
  · exact fun _ => rfl
  exact ret_run c (hQ _ _)

end Cert.Exchange
-- ==== Proof.BodyC.lean ====
module

public import proofs.«01_k».proof.Proof.BodyB

/-!
# A device's body, part by part: the fourth column group
-/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

theorem part16_run (R : sProp 𝕄) (v2 v3 v346 v457 : BitVec 32) (v462 : BitVec 1) {Q : (Σ' (v484 : BitVec 32), FVec F S512x2048 .bf16) → sProp 𝕄}
    (hQ : ∀ v484, Mid m ρ K c R (ws (.ready 0 (gOf c 3)) (.fly 1 (gOf c 3))) 12 12 ⊢ Q ⟨v484, k0_pay40 (xv m ρ c 0)⟩) :
    Mid m ρ K c R (ws (.fly 0 (gOf c 3)) (.fly 1 (gOf c 3))) 9 10 ⊢ runs c (k0_part16_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v346 (yFull m ρ c (gOf c 2)) v457 (tile (yFull m ρ c (gOf c 2)) 1) v462) Q := by
  unfold k0_part16_skel
  simp only [Prog.lift, Prog.bind_op, Prog.bind_ret, Prog.pure_eq_ret]
  with_reducible refine step_send m ρ K c R 9 ?_ ?_ ?_ ?_ ?_ ?_ ?_ ?_ ?_ ?_
  · rfl
  · exact (by decide +kernel : ∀ d : Dev nD, k0_cond36 d = 1#1 ↔ dest d 9 ≠ d) c
  · rfl
  · exact fun _ => rfl
  · exact fun _ => Fin.ext ((by decide +kernel : ∀ d : Dev nD, k0_dev26 d = (dest d 9).val) c)
  · exact fun _ => rfl
  · exact fun _ => rSl_eq (k0_off34_eq c)
  · exact fun _ => sSem_at 9
  · exact fun _ => rSem_eq (k0_off33_eq c)
  with_reducible refine step_own m ρ K c R 10 ?_ ?_ ?_ ?_ ?_
  · rfl
  · exact (by decide +kernel : ∀ d : Dev nD, k0_cond37 d = 1#1 ↔ dest d 10 = d) c
  · exact fun _ => k0_off35_eq c
  · exact fun _ => rfl
  with_reducible refine step_send m ρ K c R 10 ?_ ?_ ?_ ?_ ?_ ?_ ?_ ?_ ?_ ?_
  · rfl
  · exact (by decide +kernel : ∀ d : Dev nD, k0_cond38 d = 1#1 ↔ dest d 10 ≠ d) c
  · rfl
  · exact fun _ => rfl
  · exact fun _ => Fin.ext ((by decide +kernel : ∀ d : Dev nD, k0_dev27 d = (dest d 10).val) c)
  · exact fun _ => rfl
  · exact fun _ => rSl_eq (k0_off37_eq c)
  · exact fun _ => sSem_at 10
  · exact fun _ => rSem_eq (k0_off36_eq c)
  with_reducible refine step_own m ρ K c R 11 ?_ ?_ ?_ ?_ ?_
  · rfl
  · exact (by decide +kernel : ∀ d : Dev nD, k0_cond39 d = 1#1 ↔ dest d 11 = d) c
  · exact fun _ => k0_off38_eq c
  · exact fun _ => rfl
  with_reducible refine step_send m ρ K c R 11 ?_ ?_ ?_ ?_ ?_ ?_ ?_ ?_ ?_ ?_
  · rfl
  · exact (by decide +kernel : ∀ d : Dev nD, k0_cond40 d = 1#1 ↔ dest d 11 ≠ d) c
  · rfl
  · exact fun _ => rfl
  · exact fun _ => Fin.ext ((by decide +kernel : ∀ d : Dev nD, k0_dev28 d = (dest d 11).val) c)
  · exact fun _ => rfl
  · exact fun _ => rSl_eq (k0_off40_eq c)
  · exact fun _ => sSem_at 11
  · exact fun _ => rSem_eq (k0_off39_eq c)
  with_reducible refine step_wait m ρ K c R (ws (.ready 0 (gOf c 3)) (.fly 1 (gOf c 3))) 0 0 (gOf c 3) rfl rfl ws_0 ?_ ?_ ?_
  · rfl
  · rfl
  with_reducible refine step_loadx m ρ K c R 0 ?_ ?_
  · rfl
  exact ret_run c (hQ _)

theorem part17_run (R : sProp 𝕄) (v3 : BitVec 32) {Q : FVec F S512x1024 .f32 → sProp 𝕄}
    (hQ : Mid m ρ K c R (ws (.fly 2 (gOf c 3)) (.ready 1 (gOf c 3))) 12 12 ⊢ Q (A2 m ρ c (gOf c 3))) :
    Mid m ρ K c R (ws (.ready 0 (gOf c 3)) (.fly 1 (gOf c 3))) 12 12 ⊢ runs c (k0_part17_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3 (k0_pay40 (xv m ρ c 0))) Q := by
  unfold k0_part17_skel
  simp only [Prog.lift, Prog.bind_op, Prog.bind_ret, Prog.pure_eq_ret]
  with_reducible refine step_loadw m ρ K c R 0 0 (gOf c 3) rfl ?_ ?_
  · rfl
  with_reducible refine step_start m ρ K c R (ws (.fly 2 (gOf c 3)) (.fly 1 (gOf c 3))) 0 2 (gOf c 3) ?_ rfl ws_0 ?_ ?_ ?_ ?_
  · trivial
  · exact srcM_eq (k0_off3_eq c 3)
  · rfl
  · rfl
  with_reducible refine step_wait m ρ K c R (ws (.fly 2 (gOf c 3)) (.ready 1 (gOf c 3))) 1 1 (gOf c 3) rfl rfl ws_1 ?_ ?_ ?_
  · rfl
  · rfl
  with_reducible refine step_loadx m ρ K c R 1 ?_ ?_
  · rfl
  with_reducible refine step_loadw m ρ K c R 1 1 (gOf c 3) rfl ?_ ?_
  · rfl
  exact ret_run c hQ

theorem part18_run (R : sProp 𝕄) (v3 : BitVec 32) {Q : (Σ' (v541 : FVec F S512x1024 .f32), FVec F S512x2048 .bf16) → sProp 𝕄}
    (hQ : Mid m ρ K c R (ws (.ready 2 (gOf c 3)) (.ready 3 (gOf c 3))) 12 12 ⊢ Q ⟨(A3 m ρ c (gOf c 3)), k0_pay43 (xv m ρ c 3)⟩) :
    Mid m ρ K c R (ws (.fly 2 (gOf c 3)) (.ready 1 (gOf c 3))) 12 12 ⊢ runs c (k0_part18_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v3 (A2 m ρ c (gOf c 3))) Q := by
  unfold k0_part18_skel
  simp only [Prog.lift, Prog.bind_op, Prog.bind_ret, Prog.pure_eq_ret]
  with_reducible refine step_start m ρ K c R (ws (.fly 2 (gOf c 3)) (.fly 3 (gOf c 3))) 1 3 (gOf c 3) ?_ rfl ws_1 ?_ ?_ ?_ ?_
  · trivial
  · exact srcM_eq (k0_off4_eq c 3)
  · rfl
  · rfl
  with_reducible refine step_wait m ρ K c R (ws (.ready 2 (gOf c 3)) (.fly 3 (gOf c 3))) 0 2 (gOf c 3) rfl rfl ws_0 ?_ ?_ ?_
  · rfl
  · rfl
  with_reducible refine step_loadx m ρ K c R 2 ?_ ?_
  · rfl
  with_reducible refine step_loadw m ρ K c R 0 2 (gOf c 3) rfl ?_ ?_
  · rfl
  with_reducible refine step_wait m ρ K c R (ws (.ready 2 (gOf c 3)) (.ready 3 (gOf c 3))) 1 3 (gOf c 3) rfl rfl ws_1 ?_ ?_ ?_
  · rfl
  · rfl
  with_reducible refine step_loadx m ρ K c R 3 ?_ ?_
  · rfl
  exact ret_run c hQ

theorem part19_run (R : sProp 𝕄) (v2 v484 : BitVec 32) {Q : (Σ' (v568 : FVec F S512x1024 .f32) (v588 : BitVec 32) (v589 : FVec F S512x256 .f32), BitVec 1) → sProp 𝕄}
    (hQ : ∀ v588 v590, Mid m ρ K c R (ws (.ready 2 (gOf c 3)) (.ready 3 (gOf c 3))) 14 14 ⊢ Q ⟨(yFull m ρ c (gOf c 3)), v588, (tile (yFull m ρ c (gOf c 3)) 2), v590⟩) :
    Mid m ρ K c R (ws (.ready 2 (gOf c 3)) (.ready 3 (gOf c 3))) 12 12 ⊢ runs c (k0_part19_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v484 (A3 m ρ c (gOf c 3)) (k0_pay43 (xv m ρ c 3))) Q := by
  unfold k0_part19_skel
  simp only [Prog.lift, Prog.bind_op, Prog.bind_ret, Prog.pure_eq_ret]
  with_reducible refine step_loadw m ρ K c R 1 3 (gOf c 3) rfl ?_ ?_
  · rfl
  with_reducible refine step_own m ρ K c R 12 ?_ ?_ ?_ ?_ ?_
  · rfl
  · exact (by decide +kernel : ∀ d : Dev nD, k0_cond41 d = 1#1 ↔ dest d 12 = d) c
  · exact fun _ => k0_off41_eq c
  · exact fun _ => rfl
  with_reducible refine step_send m ρ K c R 12 ?_ ?_ ?_ ?_ ?_ ?_ ?_ ?_ ?_ ?_
  · rfl
  · exact (by decide +kernel : ∀ d : Dev nD, k0_cond42 d = 1#1 ↔ dest d 12 ≠ d) c
  · rfl
  · exact fun _ => rfl
  · exact fun _ => Fin.ext ((by decide +kernel : ∀ d : Dev nD, k0_dev29 d = (dest d 12).val) c)
  · exact fun _ => rfl
  · exact fun _ => rSl_eq (k0_off43_eq c)
  · exact fun _ => sSem_at 12
  · exact fun _ => rSem_eq (k0_off42_eq c)
  with_reducible refine step_own m ρ K c R 13 ?_ ?_ ?_ ?_ ?_
  · rfl
  · exact (by decide +kernel : ∀ d : Dev nD, k0_cond43 d = 1#1 ↔ dest d 13 = d) c
  · exact fun _ => k0_off44_eq c
  · exact fun _ => rfl
  with_reducible refine step_send m ρ K c R 13 ?_ ?_ ?_ ?_ ?_ ?_ ?_ ?_ ?_ ?_
  · rfl
  · exact (by decide +kernel : ∀ d : Dev nD, k0_cond44 d = 1#1 ↔ dest d 13 ≠ d) c
  · rfl
  · exact fun _ => rfl
  · exact fun _ => Fin.ext ((by decide +kernel : ∀ d : Dev nD, k0_dev30 d = (dest d 13).val) c)
  · exact fun _ => rfl
  · exact fun _ => rSl_eq (k0_off46_eq c)
  · exact fun _ => sSem_at 13
  · exact fun _ => rSem_eq (k0_off45_eq c)
  exact ret_run c (hQ _ _)

end Cert.Exchange
-- ==== Proof.BodyD.lean ====
module

public import proofs.«01_k».proof.Proof.BodyC

/-!
# A device's body, part by part: the barrier, the receives and the last waits
-/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## From one phase to the next -/

/-- The positions on the cells of both kinds of transfers, with the credits for what arrives. -/
def Pos : sProp 𝕄 :=
  iprop((bigSep Finset.univ fun s => atPos ER (sendCell c s) 0 ∅ 0)
    ∗ bigSep Finset.univ fun r => iprop(atPos ER (recvCell c (srcOf c r)) 0 ∅ 0 ∗ other (srcOf c r = c) (cred (tallyAt (recvCell c (srcOf c r)) () N))))
/-- What a device keeps across the barrier. -/
def Kept : sProp 𝕄 :=
  iprop(Slots m c (ws .idle .idle) ∗ (bigSep Finset.univ fun s => yAny c s) ∗ XPts m ρ c ∗ Out m ρ c (fun _ => False)
    ∗ (bigSep Finset.univ fun s => other (dest c s = c) iprop(dutyTok ER (sendCell c s) 0 0 ∗ dutyTok ER (recvCell (dest c s) c) 0 0)) ∗ Pos c)
/-- The same with the barrier's own position and credit. -/
def Start : sProp 𝕄 := iprop((atPos ER (barCell c) 0 ∅ 0 ∗ cred (tallyAt (barCell c) () 15)) ∗ Kept m ρ c)
/-- What the computing phase carries along. -/
def Carry1 : sProp 𝕄 := iprop(semVal (barCell c) 0 ∗ rAny c c ∗ Pos c)
/-- What the receiving phase carries along. -/
def Carry2 (w : Fin 2 → WS) : sProp 𝕄 :=
  iprop(semVal (barCell c) 0 ∗ Slots m c w ∗ XPts m ρ c ∗ (bigSep Finset.univ fun s => sndDone c s) ∗ bigSep Finset.univ fun s => atPos ER (sendCell c s) 0 ∅ 0)
/-- What the last waits carry along. -/
def Carry3 (w : Fin 2 → WS) : sProp 𝕄 :=
  iprop(semVal (barCell c) 0 ∗ Slots m c w ∗ XPts m ρ c ∗ Out m ρ c (fun _ => True) ∗ bigSep Finset.univ fun r => rvDone c r)

theorem barrier_mid : iprop(Rec (F := F) m ρ K ∗ Owes c (OR c 0) ∗ (semVal (barCell c) 0 ∗ rAny c c ∗ bigSep Finset.univ fun s => other (dest c s = c) (rAny (F := F) (dest c s) c)) ∗ Kept m ρ c)
    ⊢ Mid m ρ K c (Carry1 c) (ws .idle .idle) 0 0 := by
  unfold Mid Kept Carry1
  rw [fam_zero]
  have h : (bigSep Finset.univ fun s => sndTodo (F := F) c s)
      = iprop((bigSep Finset.univ fun s => yAny c s) ∗ (bigSep Finset.univ fun s => other (dest c s = c) (rAny (dest c s) c))
        ∗ bigSep Finset.univ fun s => other (dest c s = c) iprop(dutyTok ER (sendCell c s) 0 0 ∗ dutyTok ER (recvCell (dest c s) c) 0 0)) := by
    unfold sndTodo; rw [bigSep_sep', bigSep_sep']
  rw [h]
  iintro ⟨#Hrec, HO, ⟨Hz, Hr, Hrs⟩, HS, Hy, HX, Hout, Ht, HP⟩
  isplitr; · iexact Hrec
  isplitl [HO]; · iexact HO
  isplitl [HS]; · iexact HS
  isplitl [Hy Hrs Ht]
  · isplitl [Hy]; · iexact Hy
    isplitl [Hrs] <;> iassumption
  isplitl [HX]; · iexact HX
  isplitl [Hout]
  · iapply (Out_mono m ρ c (fun s (hs : s = c ∧ (place c c).val < 0) => absurd hs.2 (Nat.not_lt_zero _))) $$ Hout
  isplitl [Hz]; · iexact Hz
  isplitl [Hr] <;> iassumption

/-- The own landing slot joins the place at which nothing arrives. -/
theorem rv_start : iprop(rAny (F := F) c c ∗ bigSep Finset.univ fun r => iprop(atPos ER (recvCell c (srcOf c r)) 0 ∅ 0 ∗ other (srcOf c r = c) (cred (tallyAt (recvCell c (srcOf c r)) () N))))
    ⊢ bigSep Finset.univ fun r => rvTodo c r := by
  have hself : srcOf c (srcOf c c) = c := srcOf_srcOf c c
  rw [bigSep_univ_at _ (srcOf c c), bigSep_univ_at (fun r => rvTodo (F := F) c r) (srcOf c c)]
  rw [bigSep_congr (s := Finset.univ.erase (srcOf c c)) (Φ := fun r => rvTodo (F := F) c r)
    (Ψ := fun r => iprop(atPos ER (recvCell c (srcOf c r)) 0 ∅ 0 ∗ other (srcOf c r = c) (cred (tallyAt (recvCell c (srcOf c r)) () N)))) fun r hr => by
      have hne : srcOf c r ≠ c := fun h => (Finset.mem_erase.mp hr).1 ((srcOf_srcOf c r).symm.trans (congrArg (srcOf c) h))
      rw [rvTodo_ne c r hne, other_neg hne]]
  rw [rvTodo_eq c _ hself, other_pos hself, hself]
  iintro ⟨Hr, ⟨Ha, -⟩, HR⟩
  isplitl [Ha Hr]
  · isplitl [Ha]; · iexact Ha
    iexact Hr
  iexact HR

theorem mid_rv (w : Fin 2 → WS) : Mid (F := F) m ρ K c (Carry1 c) w 16 16 ⊢ RV m ρ K c (Carry2 m ρ c w) 0 := by
  unfold Mid RV Carry1 Carry2 Pos
  rw [fam_zero, fam_all, OR_16]
  iintro ⟨#Hrec, HO, HS, Hs, HX, Hout, Hz, Hr, Hsp, Hrp⟩
  isplitr; · iexact Hrec
  isplitl [HO]; · iexact HO
  isplitl [Hr Hrp]
  · iapply (rv_start c)
    isplitl [Hr]; · iexact Hr
    iexact Hrp
  isplitl [Hout]
  · iapply (Out_mono m ρ c (fun s (hs : got c 0 s) => hs.elim (fun h => ⟨h, (place c c).isLt⟩) fun h => absurd h (Nat.not_lt_zero _))) $$ Hout
  isplitl [Hz]; · iexact Hz
  isplitl [HS]; · iexact HS
  isplitl [HX]; · iexact HX
  isplitl [Hs]; · iexact Hs
  iexact Hsp

theorem rv_sw (w : Fin 2 → WS) : RV (F := F) m ρ K c (Carry2 m ρ c w) 16 ⊢ SW m ρ K c (Carry3 m ρ c w) 0 := by
  unfold RV SW Carry2 Carry3
  rw [fam_all, fam_zero]
  have h : (bigSep Finset.univ fun s => swTodo (F := F) c s)
      = iprop((bigSep Finset.univ fun s => atPos ER (sendCell c s) 0 ∅ 0) ∗ bigSep Finset.univ fun s => sndDone c s) := by
    unfold swTodo sndDone; rw [bigSep_sep']
  rw [h]
  iintro ⟨#Hrec, HO, Hrv, Hout, Hz, HS, HX, Hs, Hsp⟩
  isplitr; · iexact Hrec
  isplitl [HO]; · iexact HO
  isplitl [Hs Hsp]
  · isplitl [Hsp]; · iexact Hsp
    iexact Hs
  isplitl [Hz]; · iexact Hz
  isplitl [HS]; · iexact HS
  isplitl [HX]; · iexact HX
  isplitl [Hout]
  · iapply (Out_mono m ρ c (P := got c 16) (P' := fun _ => True) (fun s _ => Or.inr (srcOf c s).isLt)) $$ Hout
  iexact Hrv

/-! ## The parts around the computing phase -/

theorem part1_run (R : sProp 𝕄)  {Q : (Σ' (d0 : Dev nD) (v2 : BitVec 32) (v3 : BitVec 32) (v4 : Sems sig S_), BitVec 32) → sProp 𝕄}
    (hQ : ∀ v2 v3 v30, Bar m ρ K c R 8 ⊢ Q ⟨c, v2, v3, SemArray.scalar (sig.barrier 0 rfl), v30⟩) :
    Bar m ρ K c R 0 ⊢ runs c (k0_part1_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 ) Q := by
  unfold k0_part1_skel
  simp only [semSignalWord, semWaitWord, Prog.lift, Prog.bind_op, Prog.bind_ret, Prog.pure_eq_ret, wp_deviceId]
  with_reducible refine step_signal m ρ K c R 0 ?_ ?_ ?_ ?_ ?_ ?_
  · rfl
  · exact (by decide +kernel : ∀ d : Dev nD, k0_cond1 d = 1#1 ↔ (0 : Dev nD) ≠ d) c
  · exact fun _ => congrArg (fun d : Dev nD => (d : Thread nD τ)) (Fin.ext k0_dev1_eq)
  · rfl
  · rfl
  with_reducible refine step_signal m ρ K c R 1 ?_ ?_ ?_ ?_ ?_ ?_
  · rfl
  · exact (by decide +kernel : ∀ d : Dev nD, k0_cond2 d = 1#1 ↔ (1 : Dev nD) ≠ d) c
  · exact fun _ => congrArg (fun d : Dev nD => (d : Thread nD τ)) (Fin.ext k0_dev2_eq)
  · rfl
  · rfl
  with_reducible refine step_signal m ρ K c R 2 ?_ ?_ ?_ ?_ ?_ ?_
  · rfl
  · exact (by decide +kernel : ∀ d : Dev nD, k0_cond3 d = 1#1 ↔ (2 : Dev nD) ≠ d) c
  · exact fun _ => congrArg (fun d : Dev nD => (d : Thread nD τ)) (Fin.ext k0_dev3_eq)
  · rfl
  · rfl
  with_reducible refine step_signal m ρ K c R 3 ?_ ?_ ?_ ?_ ?_ ?_
  · rfl
  · exact (by decide +kernel : ∀ d : Dev nD, k0_cond4 d = 1#1 ↔ (3 : Dev nD) ≠ d) c
  · exact fun _ => congrArg (fun d : Dev nD => (d : Thread nD τ)) (Fin.ext k0_dev4_eq)
  · rfl
  · rfl
  with_reducible refine step_signal m ρ K c R 4 ?_ ?_ ?_ ?_ ?_ ?_
  · rfl
  · exact (by decide +kernel : ∀ d : Dev nD, k0_cond5 d = 1#1 ↔ (4 : Dev nD) ≠ d) c
  · exact fun _ => congrArg (fun d : Dev nD => (d : Thread nD τ)) (Fin.ext k0_dev5_eq)
  · rfl
  · rfl
  with_reducible refine step_signal m ρ K c R 5 ?_ ?_ ?_ ?_ ?_ ?_
  · rfl
  · exact (by decide +kernel : ∀ d : Dev nD, k0_cond6 d = 1#1 ↔ (5 : Dev nD) ≠ d) c
  · exact fun _ => congrArg (fun d : Dev nD => (d : Thread nD τ)) (Fin.ext k0_dev6_eq)
  · rfl
  · rfl
  with_reducible refine step_signal m ρ K c R 6 ?_ ?_ ?_ ?_ ?_ ?_
  · rfl
  · exact (by decide +kernel : ∀ d : Dev nD, k0_cond7 d = 1#1 ↔ (6 : Dev nD) ≠ d) c
  · exact fun _ => congrArg (fun d : Dev nD => (d : Thread nD τ)) (Fin.ext k0_dev7_eq)
  · rfl
  · rfl
  with_reducible refine step_signal m ρ K c R 7 ?_ ?_ ?_ ?_ ?_ ?_
  · rfl
  · exact (by decide +kernel : ∀ d : Dev nD, k0_cond8 d = 1#1 ↔ (7 : Dev nD) ≠ d) c
  · exact fun _ => congrArg (fun d : Dev nD => (d : Thread nD τ)) (Fin.ext k0_dev8_eq)
  · rfl
  · rfl
  exact ret_run c (hQ _ _ _)

theorem part2_run (v2 v3 v30 : BitVec 32) {Q : PUnit → sProp 𝕄}
    (hQ : Mid m ρ K c (Carry1 c) (ws .idle .idle) 0 0 ⊢ Q ⟨⟩) :
    Bar m ρ K c (Start m ρ c) 8 ⊢ runs c (k0_part2_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 (SemArray.scalar (sig.barrier 0 rfl)) v30) Q := by
  unfold k0_part2_skel
  simp only [semSignalWord, semWaitWord, Prog.lift, Prog.bind_op, Prog.bind_ret, Prog.pure_eq_ret]
  with_reducible refine step_signal m ρ K c (Start m ρ c) 8 ?_ ?_ ?_ ?_ ?_ ?_
  · rfl
  · exact (by decide +kernel : ∀ d : Dev nD, k0_cond9 d = 1#1 ↔ (8 : Dev nD) ≠ d) c
  · exact fun _ => congrArg (fun d : Dev nD => (d : Thread nD τ)) (Fin.ext k0_dev9_eq)
  · rfl
  · rfl
  with_reducible refine step_signal m ρ K c (Start m ρ c) 9 ?_ ?_ ?_ ?_ ?_ ?_
  · rfl
  · exact (by decide +kernel : ∀ d : Dev nD, k0_cond10 d = 1#1 ↔ (9 : Dev nD) ≠ d) c
  · exact fun _ => congrArg (fun d : Dev nD => (d : Thread nD τ)) (Fin.ext k0_dev10_eq)
  · rfl
  · rfl
  with_reducible refine step_signal m ρ K c (Start m ρ c) 10 ?_ ?_ ?_ ?_ ?_ ?_
  · rfl
  · exact (by decide +kernel : ∀ d : Dev nD, k0_cond11 d = 1#1 ↔ (10 : Dev nD) ≠ d) c
  · exact fun _ => congrArg (fun d : Dev nD => (d : Thread nD τ)) (Fin.ext k0_dev11_eq)
  · rfl
  · rfl
  with_reducible refine step_signal m ρ K c (Start m ρ c) 11 ?_ ?_ ?_ ?_ ?_ ?_
  · rfl
  · exact (by decide +kernel : ∀ d : Dev nD, k0_cond12 d = 1#1 ↔ (11 : Dev nD) ≠ d) c
  · exact fun _ => congrArg (fun d : Dev nD => (d : Thread nD τ)) (Fin.ext k0_dev12_eq)
  · rfl
  · rfl
  with_reducible refine step_signal m ρ K c (Start m ρ c) 12 ?_ ?_ ?_ ?_ ?_ ?_
  · rfl
  · exact (by decide +kernel : ∀ d : Dev nD, k0_cond13 d = 1#1 ↔ (12 : Dev nD) ≠ d) c
  · exact fun _ => congrArg (fun d : Dev nD => (d : Thread nD τ)) (Fin.ext k0_dev13_eq)
  · rfl
  · rfl
  with_reducible refine step_signal m ρ K c (Start m ρ c) 13 ?_ ?_ ?_ ?_ ?_ ?_
  · rfl
  · exact (by decide +kernel : ∀ d : Dev nD, k0_cond14 d = 1#1 ↔ (13 : Dev nD) ≠ d) c
  · exact fun _ => congrArg (fun d : Dev nD => (d : Thread nD τ)) (Fin.ext k0_dev14_eq)
  · rfl
  · rfl
  with_reducible refine step_signal m ρ K c (Start m ρ c) 14 ?_ ?_ ?_ ?_ ?_ ?_
  · rfl
  · exact (by decide +kernel : ∀ d : Dev nD, k0_cond15 d = 1#1 ↔ (14 : Dev nD) ≠ d) c
  · exact fun _ => congrArg (fun d : Dev nD => (d : Thread nD τ)) (Fin.ext k0_dev15_eq)
  · rfl
  · rfl
  with_reducible refine step_signal m ρ K c (Start m ρ c) 15 ?_ ?_ ?_ ?_ ?_ ?_
  · rfl
  · exact (by decide +kernel : ∀ d : Dev nD, k0_cond16 d = 1#1 ↔ (15 : Dev nD) ≠ d) c
  · exact fun _ => congrArg (fun d : Dev nD => (d : Thread nD τ)) (Fin.ext k0_dev16_eq)
  · rfl
  · rfl
  unfold Start
  with_reducible refine step_barwait m ρ K c (Kept m ρ c) ?_ ?_ ?_
  · rfl
  · rfl
  refine (barrier_mid m ρ K c).trans ?_
  exact ret_run c hQ

theorem part20_run (v2 v3 v484 v588 : BitVec 32) (v590 : BitVec 1) {Q : (Σ' (v623 : BitVec 32), BitVec 32) → sProp 𝕄}
    (hQ : ∀ v623 v, RV m ρ K c (Carry2 m ρ c (ws (.ready 2 (gOf c 3)) (.ready 3 (gOf c 3)))) 3 ⊢ Q ⟨v623, v⟩) :
    Mid m ρ K c (Carry1 c) (ws (.ready 2 (gOf c 3)) (.ready 3 (gOf c 3))) 14 14 ⊢ runs c (k0_part20_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v484 (yFull m ρ c (gOf c 3)) v588 (tile (yFull m ρ c (gOf c 3)) 2) v590) Q := by
  unfold k0_part20_skel
  simp only [Prog.lift, Prog.bind_op, Prog.bind_ret, Prog.pure_eq_ret]
  with_reducible refine step_own m ρ K c (Carry1 c) 14 ?_ ?_ ?_ ?_ ?_
  · rfl
  · exact (by decide +kernel : ∀ d : Dev nD, k0_cond45 d = 1#1 ↔ dest d 14 = d) c
  · exact fun _ => k0_off47_eq c
  · exact fun _ => rfl
  with_reducible refine step_send m ρ K c (Carry1 c) 14 ?_ ?_ ?_ ?_ ?_ ?_ ?_ ?_ ?_ ?_
  · rfl
  · exact (by decide +kernel : ∀ d : Dev nD, k0_cond46 d = 1#1 ↔ dest d 14 ≠ d) c
  · rfl
  · exact fun _ => rfl
  · exact fun _ => Fin.ext ((by decide +kernel : ∀ d : Dev nD, k0_dev31 d = (dest d 14).val) c)
  · exact fun _ => rfl
  · exact fun _ => rSl_eq (k0_off49_eq c)
  · exact fun _ => sSem_at 14
  · exact fun _ => rSem_eq (k0_off48_eq c)
  with_reducible refine step_own m ρ K c (Carry1 c) 15 ?_ ?_ ?_ ?_ ?_
  · rfl
  · exact (by decide +kernel : ∀ d : Dev nD, k0_cond47 d = 1#1 ↔ dest d 15 = d) c
  · exact fun _ => k0_off50_eq c
  · exact fun _ => rfl
  with_reducible refine step_send m ρ K c (Carry1 c) 15 ?_ ?_ ?_ ?_ ?_ ?_ ?_ ?_ ?_ ?_
  · rfl
  · exact (by decide +kernel : ∀ d : Dev nD, k0_cond48 d = 1#1 ↔ dest d 15 ≠ d) c
  · rfl
  · exact fun _ => rfl
  · exact fun _ => Fin.ext ((by decide +kernel : ∀ d : Dev nD, k0_dev32 d = (dest d 15).val) c)
  · exact fun _ => rfl
  · exact fun _ => rSl_eq (k0_off52_eq c)
  · exact fun _ => sSem_at 15
  · exact fun _ => rSem_eq (k0_off51_eq c)
  refine (mid_rv m ρ K c (ws (.ready 2 (gOf c 3)) (.ready 3 (gOf c 3)))).trans ?_
  with_reducible refine step_recv m ρ K c (Carry2 m ρ c (ws (.ready 2 (gOf c 3)) (.ready 3 (gOf c 3)))) 0 ?_ ?_ ?_ ?_ ?_ ?_ ?_ ?_
  · rfl
  · exact (by decide +kernel : ∀ d : Dev nD, k0_cond49 d = 1#1 ↔ srcOf d 0 ≠ d) c
  · exact fun _ => rSem_eq ((by decide +kernel : ∀ d : Dev nD, k0_off53 d = ![(srcOf d 0).val]) c)
  · exact fun _ => rfl
  · exact fun _ => (by decide +kernel : ∀ d : Dev nD, k0_off55 d = ![(srcOf d 0).val, 0, 0]) c
  · exact fun _ => (by decide +kernel : ∀ d : Dev nD, k0_off56 d = ![512 * (srcOf d 0).val, 0]) c
  · exact fun _ => rfl
  with_reducible refine step_recv m ρ K c (Carry2 m ρ c (ws (.ready 2 (gOf c 3)) (.ready 3 (gOf c 3)))) 1 ?_ ?_ ?_ ?_ ?_ ?_ ?_ ?_
  · rfl
  · exact (by decide +kernel : ∀ d : Dev nD, k0_cond50 d = 1#1 ↔ srcOf d 1 ≠ d) c
  · exact fun _ => rSem_eq ((by decide +kernel : ∀ d : Dev nD, k0_off57 d = ![(srcOf d 1).val]) c)
  · exact fun _ => rfl
  · exact fun _ => (by decide +kernel : ∀ d : Dev nD, k0_off59 d = ![(srcOf d 1).val, 0, 0]) c
  · exact fun _ => (by decide +kernel : ∀ d : Dev nD, k0_off60 d = ![512 * (srcOf d 1).val, 0]) c
  · exact fun _ => rfl
  with_reducible refine step_recv m ρ K c (Carry2 m ρ c (ws (.ready 2 (gOf c 3)) (.ready 3 (gOf c 3)))) 2 ?_ ?_ ?_ ?_ ?_ ?_ ?_ ?_
  · rfl
  · exact (by decide +kernel : ∀ d : Dev nD, k0_cond51 d = 1#1 ↔ srcOf d 2 ≠ d) c
  · exact fun _ => rSem_eq ((by decide +kernel : ∀ d : Dev nD, k0_off61 d = ![(srcOf d 2).val]) c)
  · exact fun _ => rfl
  · exact fun _ => (by decide +kernel : ∀ d : Dev nD, k0_off63 d = ![(srcOf d 2).val, 0, 0]) c
  · exact fun _ => (by decide +kernel : ∀ d : Dev nD, k0_off64 d = ![512 * (srcOf d 2).val, 0]) c
  · exact fun _ => rfl
  exact ret_run c (hQ _ _)

theorem part21_run (R : sProp 𝕄) (v2 v3 v623 v : BitVec 32) {Q : (Σ' (v653 : BitVec 32) (v655 : BitVec 32), BitVec 32) → sProp 𝕄}
    (hQ : ∀ a1 a2 a3, RV m ρ K c R 8 ⊢ Q ⟨a1, a2, a3⟩) :
    RV m ρ K c R 3 ⊢ runs c (k0_part21_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v623 v) Q := by
  unfold k0_part21_skel
  simp only [Prog.lift, Prog.bind_op, Prog.bind_ret, Prog.pure_eq_ret]
  with_reducible refine step_recv m ρ K c R 3 ?_ ?_ ?_ ?_ ?_ ?_ ?_ ?_
  · rfl
  · exact (by decide +kernel : ∀ d : Dev nD, k0_cond52 d = 1#1 ↔ srcOf d 3 ≠ d) c
  · exact fun _ => rSem_eq ((by decide +kernel : ∀ d : Dev nD, k0_off65 d = ![(srcOf d 3).val]) c)
  · exact fun _ => rfl
  · exact fun _ => (by decide +kernel : ∀ d : Dev nD, k0_off67 d = ![(srcOf d 3).val, 0, 0]) c
  · exact fun _ => (by decide +kernel : ∀ d : Dev nD, k0_off68 d = ![512 * (srcOf d 3).val, 0]) c
  · exact fun _ => rfl
  with_reducible refine step_recv m ρ K c R 4 ?_ ?_ ?_ ?_ ?_ ?_ ?_ ?_
  · rfl
  · exact (by decide +kernel : ∀ d : Dev nD, k0_cond53 d = 1#1 ↔ srcOf d 4 ≠ d) c
  · exact fun _ => rSem_eq ((by decide +kernel : ∀ d : Dev nD, k0_off69 d = ![(srcOf d 4).val]) c)
  · exact fun _ => rfl
  · exact fun _ => (by decide +kernel : ∀ d : Dev nD, k0_off71 d = ![(srcOf d 4).val, 0, 0]) c
  · exact fun _ => (by decide +kernel : ∀ d : Dev nD, k0_off72 d = ![512 * (srcOf d 4).val, 0]) c
  · exact fun _ => rfl
  with_reducible refine step_recv m ρ K c R 5 ?_ ?_ ?_ ?_ ?_ ?_ ?_ ?_
  · rfl
  · exact (by decide +kernel : ∀ d : Dev nD, k0_cond54 d = 1#1 ↔ srcOf d 5 ≠ d) c
  · exact fun _ => rSem_eq ((by decide +kernel : ∀ d : Dev nD, k0_off73 d = ![(srcOf d 5).val]) c)
  · exact fun _ => rfl
  · exact fun _ => (by decide +kernel : ∀ d : Dev nD, k0_off75 d = ![(srcOf d 5).val, 0, 0]) c
  · exact fun _ => (by decide +kernel : ∀ d : Dev nD, k0_off76 d = ![512 * (srcOf d 5).val, 0]) c
  · exact fun _ => rfl
  with_reducible refine step_recv m ρ K c R 6 ?_ ?_ ?_ ?_ ?_ ?_ ?_ ?_
  · rfl
  · exact (by decide +kernel : ∀ d : Dev nD, k0_cond55 d = 1#1 ↔ srcOf d 6 ≠ d) c
  · exact fun _ => rSem_eq ((by decide +kernel : ∀ d : Dev nD, k0_off77 d = ![(srcOf d 6).val]) c)
  · exact fun _ => rfl
  · exact fun _ => (by decide +kernel : ∀ d : Dev nD, k0_off79 d = ![(srcOf d 6).val, 0, 0]) c
  · exact fun _ => (by decide +kernel : ∀ d : Dev nD, k0_off80 d = ![512 * (srcOf d 6).val, 0]) c
  · exact fun _ => rfl
  with_reducible refine step_recv m ρ K c R 7 ?_ ?_ ?_ ?_ ?_ ?_ ?_ ?_
  · rfl
  · exact (by decide +kernel : ∀ d : Dev nD, k0_cond56 d = 1#1 ↔ srcOf d 7 ≠ d) c
  · exact fun _ => rSem_eq ((by decide +kernel : ∀ d : Dev nD, k0_off81 d = ![(srcOf d 7).val]) c)
  · exact fun _ => rfl
  · exact fun _ => (by decide +kernel : ∀ d : Dev nD, k0_off83 d = ![(srcOf d 7).val, 0, 0]) c
  · exact fun _ => (by decide +kernel : ∀ d : Dev nD, k0_off84 d = ![512 * (srcOf d 7).val, 0]) c
  · exact fun _ => rfl
  exact ret_run c (hQ _ _ _)

theorem part22_run (R : sProp 𝕄) (v2 v3 v653 v655 v657 : BitVec 32) {Q : (Σ' (v676 : BitVec 32) (v688 : BitVec 32), BitVec 32) → sProp 𝕄}
    (hQ : ∀ a1 a2 a3, RV m ρ K c R 14 ⊢ Q ⟨a1, a2, a3⟩) :
    RV m ρ K c R 8 ⊢ runs c (k0_part22_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v653 v655 v657) Q := by
  unfold k0_part22_skel
  simp only [Prog.lift, Prog.bind_op, Prog.bind_ret, Prog.pure_eq_ret]
  with_reducible refine step_recv m ρ K c R 8 ?_ ?_ ?_ ?_ ?_ ?_ ?_ ?_
  · rfl
  · exact (by decide +kernel : ∀ d : Dev nD, k0_cond57 d = 1#1 ↔ srcOf d 8 ≠ d) c
  · exact fun _ => rSem_eq ((by decide +kernel : ∀ d : Dev nD, k0_off85 d = ![(srcOf d 8).val]) c)
  · exact fun _ => rfl
  · exact fun _ => (by decide +kernel : ∀ d : Dev nD, k0_off87 d = ![(srcOf d 8).val, 0, 0]) c
  · exact fun _ => (by decide +kernel : ∀ d : Dev nD, k0_off88 d = ![512 * (srcOf d 8).val, 0]) c
  · exact fun _ => rfl
  with_reducible refine step_recv m ρ K c R 9 ?_ ?_ ?_ ?_ ?_ ?_ ?_ ?_
  · rfl
  · exact (by decide +kernel : ∀ d : Dev nD, k0_cond58 d = 1#1 ↔ srcOf d 9 ≠ d) c
  · exact fun _ => rSem_eq ((by decide +kernel : ∀ d : Dev nD, k0_off89 d = ![(srcOf d 9).val]) c)
  · exact fun _ => rfl
  · exact fun _ => (by decide +kernel : ∀ d : Dev nD, k0_off91 d = ![(srcOf d 9).val, 0, 0]) c
  · exact fun _ => (by decide +kernel : ∀ d : Dev nD, k0_off92 d = ![512 * (srcOf d 9).val, 0]) c
  · exact fun _ => rfl
  with_reducible refine step_recv m ρ K c R 10 ?_ ?_ ?_ ?_ ?_ ?_ ?_ ?_
  · rfl
  · exact (by decide +kernel : ∀ d : Dev nD, k0_cond59 d = 1#1 ↔ srcOf d 10 ≠ d) c
  · exact fun _ => rSem_eq ((by decide +kernel : ∀ d : Dev nD, k0_off93 d = ![(srcOf d 10).val]) c)
  · exact fun _ => rfl
  · exact fun _ => (by decide +kernel : ∀ d : Dev nD, k0_off95 d = ![(srcOf d 10).val, 0, 0]) c
  · exact fun _ => (by decide +kernel : ∀ d : Dev nD, k0_off96 d = ![512 * (srcOf d 10).val, 0]) c
  · exact fun _ => rfl
  with_reducible refine step_recv m ρ K c R 11 ?_ ?_ ?_ ?_ ?_ ?_ ?_ ?_
  · rfl
  · exact (by decide +kernel : ∀ d : Dev nD, k0_cond60 d = 1#1 ↔ srcOf d 11 ≠ d) c
  · exact fun _ => rSem_eq ((by decide +kernel : ∀ d : Dev nD, k0_off97 d = ![(srcOf d 11).val]) c)
  · exact fun _ => rfl
  · exact fun _ => (by decide +kernel : ∀ d : Dev nD, k0_off99 d = ![(srcOf d 11).val, 0, 0]) c
  · exact fun _ => (by decide +kernel : ∀ d : Dev nD, k0_off100 d = ![512 * (srcOf d 11).val, 0]) c
  · exact fun _ => rfl
  with_reducible refine step_recv m ρ K c R 12 ?_ ?_ ?_ ?_ ?_ ?_ ?_ ?_
  · rfl
  · exact (by decide +kernel : ∀ d : Dev nD, k0_cond61 d = 1#1 ↔ srcOf d 12 ≠ d) c
  · exact fun _ => rSem_eq ((by decide +kernel : ∀ d : Dev nD, k0_off101 d = ![(srcOf d 12).val]) c)
  · exact fun _ => rfl
  · exact fun _ => (by decide +kernel : ∀ d : Dev nD, k0_off103 d = ![(srcOf d 12).val, 0, 0]) c
  · exact fun _ => (by decide +kernel : ∀ d : Dev nD, k0_off104 d = ![512 * (srcOf d 12).val, 0]) c
  · exact fun _ => rfl
  with_reducible refine step_recv m ρ K c R 13 ?_ ?_ ?_ ?_ ?_ ?_ ?_ ?_
  · rfl
  · exact (by decide +kernel : ∀ d : Dev nD, k0_cond62 d = 1#1 ↔ srcOf d 13 ≠ d) c
  · exact fun _ => rSem_eq ((by decide +kernel : ∀ d : Dev nD, k0_off105 d = ![(srcOf d 13).val]) c)
  · exact fun _ => rfl
  · exact fun _ => (by decide +kernel : ∀ d : Dev nD, k0_off107 d = ![(srcOf d 13).val, 0, 0]) c
  · exact fun _ => (by decide +kernel : ∀ d : Dev nD, k0_off108 d = ![512 * (srcOf d 13).val, 0]) c
  · exact fun _ => rfl
  exact ret_run c (hQ _ _ _)

theorem part23_run (v2 v3 v676 v688 v690 : BitVec 32) {Q : (Σ' (v720 : BitVec 32), BitVec 32) → sProp 𝕄}
    (hQ : ∀ a1 a2, SW m ρ K c (Carry3 m ρ c (ws (.ready 2 (gOf c 3)) (.ready 3 (gOf c 3)))) 4 ⊢ Q ⟨a1, a2⟩) :
    RV m ρ K c (Carry2 m ρ c (ws (.ready 2 (gOf c 3)) (.ready 3 (gOf c 3)))) 14 ⊢ runs c (k0_part23_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v676 v688 v690) Q := by
  unfold k0_part23_skel
  simp only [Prog.lift, Prog.bind_op, Prog.bind_ret, Prog.pure_eq_ret]
  with_reducible refine step_recv m ρ K c (Carry2 m ρ c (ws (.ready 2 (gOf c 3)) (.ready 3 (gOf c 3)))) 14 ?_ ?_ ?_ ?_ ?_ ?_ ?_ ?_
  · rfl
  · exact (by decide +kernel : ∀ d : Dev nD, k0_cond63 d = 1#1 ↔ srcOf d 14 ≠ d) c
  · exact fun _ => rSem_eq ((by decide +kernel : ∀ d : Dev nD, k0_off109 d = ![(srcOf d 14).val]) c)
  · exact fun _ => rfl
  · exact fun _ => (by decide +kernel : ∀ d : Dev nD, k0_off111 d = ![(srcOf d 14).val, 0, 0]) c
  · exact fun _ => (by decide +kernel : ∀ d : Dev nD, k0_off112 d = ![512 * (srcOf d 14).val, 0]) c
  · exact fun _ => rfl
  with_reducible refine step_recv m ρ K c (Carry2 m ρ c (ws (.ready 2 (gOf c 3)) (.ready 3 (gOf c 3)))) 15 ?_ ?_ ?_ ?_ ?_ ?_ ?_ ?_
  · rfl
  · exact (by decide +kernel : ∀ d : Dev nD, k0_cond64 d = 1#1 ↔ srcOf d 15 ≠ d) c
  · exact fun _ => rSem_eq ((by decide +kernel : ∀ d : Dev nD, k0_off113 d = ![(srcOf d 15).val]) c)
  · exact fun _ => rfl
  · exact fun _ => (by decide +kernel : ∀ d : Dev nD, k0_off115 d = ![(srcOf d 15).val, 0, 0]) c
  · exact fun _ => (by decide +kernel : ∀ d : Dev nD, k0_off116 d = ![512 * (srcOf d 15).val, 0]) c
  · exact fun _ => rfl
  refine (rv_sw m ρ K c (ws (.ready 2 (gOf c 3)) (.ready 3 (gOf c 3)))).trans ?_
  with_reducible refine step_swait m ρ K c (Carry3 m ρ c (ws (.ready 2 (gOf c 3)) (.ready 3 (gOf c 3)))) 0 ?_ ?_ ?_ ?_ ?_
  · rfl
  · exact (by decide +kernel : ∀ d : Dev nD, k0_cond65 d = 1#1 ↔ dest d 0 ≠ d) c
  · exact fun _ => sSem_at 0
  · exact fun _ => rfl
  with_reducible refine step_swait m ρ K c (Carry3 m ρ c (ws (.ready 2 (gOf c 3)) (.ready 3 (gOf c 3)))) 1 ?_ ?_ ?_ ?_ ?_
  · rfl
  · exact (by decide +kernel : ∀ d : Dev nD, k0_cond66 d = 1#1 ↔ dest d 1 ≠ d) c
  · exact fun _ => sSem_at 1
  · exact fun _ => rfl
  with_reducible refine step_swait m ρ K c (Carry3 m ρ c (ws (.ready 2 (gOf c 3)) (.ready 3 (gOf c 3)))) 2 ?_ ?_ ?_ ?_ ?_
  · rfl
  · exact (by decide +kernel : ∀ d : Dev nD, k0_cond67 d = 1#1 ↔ dest d 2 ≠ d) c
  · exact fun _ => sSem_at 2
  · exact fun _ => rfl
  with_reducible refine step_swait m ρ K c (Carry3 m ρ c (ws (.ready 2 (gOf c 3)) (.ready 3 (gOf c 3)))) 3 ?_ ?_ ?_ ?_ ?_
  · rfl
  · exact (by decide +kernel : ∀ d : Dev nD, k0_cond68 d = 1#1 ↔ dest d 3 ≠ d) c
  · exact fun _ => sSem_at 3
  · exact fun _ => rfl
  exact ret_run c (hQ _ _)

theorem part24_run (R : sProp 𝕄) (v2 v3 v720 v722 : BitVec 32) {Q : (Σ' (v742 : BitVec 32), BitVec 32) → sProp 𝕄}
    (hQ : ∀ a1 a2, SW m ρ K c R 10 ⊢ Q ⟨a1, a2⟩) :
    SW m ρ K c R 4 ⊢ runs c (k0_part24_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 c v2 v3 v720 v722) Q := by
  unfold k0_part24_skel
  simp only [Prog.lift, Prog.bind_op, Prog.bind_ret, Prog.pure_eq_ret]
  with_reducible refine step_swait m ρ K c R 4 ?_ ?_ ?_ ?_ ?_
  · rfl
  · exact (by decide +kernel : ∀ d : Dev nD, k0_cond69 d = 1#1 ↔ dest d 4 ≠ d) c
  · exact fun _ => sSem_at 4
  · exact fun _ => rfl
  with_reducible refine step_swait m ρ K c R 5 ?_ ?_ ?_ ?_ ?_
  · rfl
  · exact (by decide +kernel : ∀ d : Dev nD, k0_cond70 d = 1#1 ↔ dest d 5 ≠ d) c
  · exact fun _ => sSem_at 5
  · exact fun _ => rfl
  with_reducible refine step_swait m ρ K c R 6 ?_ ?_ ?_ ?_ ?_
  · rfl
  · exact (by decide +kernel : ∀ d : Dev nD, k0_cond71 d = 1#1 ↔ dest d 6 ≠ d) c
  · exact fun _ => sSem_at 6
  · exact fun _ => rfl
  with_reducible refine step_swait m ρ K c R 7 ?_ ?_ ?_ ?_ ?_
  · rfl
  · exact (by decide +kernel : ∀ d : Dev nD, k0_cond72 d = 1#1 ↔ dest d 7 ≠ d) c
  · exact fun _ => sSem_at 7
  · exact fun _ => rfl
  with_reducible refine step_swait m ρ K c R 8 ?_ ?_ ?_ ?_ ?_
  · rfl
  · exact (by decide +kernel : ∀ d : Dev nD, k0_cond73 d = 1#1 ↔ dest d 8 ≠ d) c
  · exact fun _ => sSem_at 8
  · exact fun _ => rfl
  with_reducible refine step_swait m ρ K c R 9 ?_ ?_ ?_ ?_ ?_
  · rfl
  · exact (by decide +kernel : ∀ d : Dev nD, k0_cond74 d = 1#1 ↔ dest d 9 ≠ d) c
  · exact fun _ => sSem_at 9
  · exact fun _ => rfl
  exact ret_run c (hQ _ _)

end Cert.Exchange
-- ==== Proof.BodyE.lean ====
module

public import proofs.«01_k».proof.Proof.BodyD

/-!
# A device's whole body
-/

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

theorem bind_run {P : sProp 𝕄} {α β : Type} {p : Pr F α} {k : α → Pr F β} {Q : β → sProp 𝕄} (h : P ⊢ runs c p (fun a => runs c (k a) Q)) :
    P ⊢ runs c (p >>= k) Q := by
  unfold runs at h ⊢; rw [wp_bind]; exact h

theorem part25_run {Q : (Σ' (d0 : Dev nD) (v2 : BitVec 32) (v764 : BitVec 32), BitVec 32) → sProp 𝕄}
    (hQ : ∀ a1 a2 a3, SW m ρ K c (Carry3 m ρ c (ws (.ready 2 (gOf c 3)) (.ready 3 (gOf c 3)))) 14 ⊢ Q ⟨c, a1, a2, a3⟩) :
    Bar m ρ K c (Start m ρ c) 0 ⊢ runs c (k0_part25_skel (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) Q := by
  unfold k0_part25_skel
  with_reducible refine bind_run c ?_
  rw [k0_part1_eq_skeleton]
  with_reducible refine part1_run m ρ K c (Start m ρ c)  (fun v2 v3 v30 => ?_)
  try dsimp only
  with_reducible refine bind_run c ?_
  rw [k0_part2_eq_skeleton]
  with_reducible refine part2_run m ρ K c v2 v3 v30 ?_
  try dsimp only
  with_reducible refine bind_run c ?_
  rw [k0_part3_eq_skeleton]
  with_reducible refine part3_run m ρ K c (Carry1 c) v3 (fun v70 => ?_)
  try dsimp only
  with_reducible refine bind_run c ?_
  rw [k0_part4_eq_skeleton]
  with_reducible refine part4_run m ρ K c (Carry1 c) v3 (fun v114 v => ?_)
  try dsimp only
  with_reducible refine bind_run c ?_
  rw [k0_part5_eq_skeleton]
  with_reducible refine part5_run m ρ K c (Carry1 c) v3 v114 v ?_
  try dsimp only
  with_reducible refine bind_run c ?_
  rw [k0_part6_eq_skeleton]
  with_reducible refine part6_run m ρ K c (Carry1 c) v2 v3 v70 (fun v172 => ?_)
  try dsimp only
  with_reducible refine bind_run c ?_
  rw [k0_part7_eq_skeleton]
  with_reducible refine part7_run m ρ K c (Carry1 c) v2 v3 v70 v172 (fun v208 => ?_)
  try dsimp only
  with_reducible refine bind_run c ?_
  rw [k0_part8_eq_skeleton]
  with_reducible refine part8_run m ρ K c (Carry1 c) v3 ?_
  try dsimp only
  with_reducible refine bind_run c ?_
  rw [k0_part9_eq_skeleton]
  with_reducible refine part9_run m ρ K c (Carry1 c) v3 ?_
  try dsimp only
  with_reducible refine bind_run c ?_
  rw [k0_part10_eq_skeleton]
  with_reducible refine part10_run m ρ K c (Carry1 c) v3 ?_
  try dsimp only
  with_reducible refine bind_run c ?_
  rw [k0_part11_eq_skeleton]
  with_reducible refine part11_run m ρ K c (Carry1 c) v2 v208 (fun v337 => ?_)
  try dsimp only
  with_reducible refine bind_run c ?_
  rw [k0_part12_eq_skeleton]
  with_reducible refine part12_run m ρ K c (Carry1 c) v2 v3 v337 (fun v346 v' => ?_)
  try dsimp only
  with_reducible refine bind_run c ?_
  rw [k0_part13_eq_skeleton]
  with_reducible refine part13_run m ρ K c (Carry1 c) v3 v' ?_
  try dsimp only
  with_reducible refine bind_run c ?_
  rw [k0_part14_eq_skeleton]
  with_reducible refine part14_run m ρ K c (Carry1 c) v3 ?_
  try dsimp only
  with_reducible refine bind_run c ?_
  rw [k0_part15_eq_skeleton]
  with_reducible refine part15_run m ρ K c (Carry1 c) v2 v3 v346 (fun v457 v462 => ?_)
  try dsimp only
  with_reducible refine bind_run c ?_
  rw [k0_part16_eq_skeleton]
  with_reducible refine part16_run m ρ K c (Carry1 c) v2 v3 v346 v457 v462 (fun v484 => ?_)
  try dsimp only
  with_reducible refine bind_run c ?_
  rw [k0_part17_eq_skeleton]
  with_reducible refine part17_run m ρ K c (Carry1 c) v3 ?_
  try dsimp only
  with_reducible refine bind_run c ?_
  rw [k0_part18_eq_skeleton]
  with_reducible refine part18_run m ρ K c (Carry1 c) v3 ?_
  try dsimp only
  with_reducible refine bind_run c ?_
  rw [k0_part19_eq_skeleton]
  with_reducible refine part19_run m ρ K c (Carry1 c) v2 v484 (fun v588 v590 => ?_)
  try dsimp only
  with_reducible refine bind_run c ?_
  rw [k0_part20_eq_skeleton]
  with_reducible refine part20_run m ρ K c v2 v3 v484 v588 v590 (fun v623 v'' => ?_)
  try dsimp only
  with_reducible refine bind_run c ?_
  rw [k0_part21_eq_skeleton]
  with_reducible refine part21_run m ρ K c (Carry2 m ρ c (ws (.ready 2 (gOf c 3)) (.ready 3 (gOf c 3)))) v2 v3 v623 v'' (fun v653 v655 v657 => ?_)
  try dsimp only
  with_reducible refine bind_run c ?_
  rw [k0_part22_eq_skeleton]
  with_reducible refine part22_run m ρ K c (Carry2 m ρ c (ws (.ready 2 (gOf c 3)) (.ready 3 (gOf c 3)))) v2 v3 v653 v655 v657 (fun v676 v688 v690 => ?_)
  try dsimp only
  with_reducible refine bind_run c ?_
  rw [k0_part23_eq_skeleton]
  with_reducible refine part23_run m ρ K c v2 v3 v676 v688 v690 (fun v720 v722 => ?_)
  try dsimp only
  with_reducible refine bind_run c ?_
  rw [k0_part24_eq_skeleton]
  with_reducible refine part24_run m ρ K c (Carry3 m ρ c (ws (.ready 2 (gOf c 3)) (.ready 3 (gOf c 3)))) v2 v3 v720 v722 (fun v742 v756 => ?_)
  try dsimp only
  simp only [Prog.lift, Prog.bind_op, Prog.bind_ret, Prog.pure_eq_ret]
  with_reducible refine step_swait m ρ K c (Carry3 m ρ c (ws (.ready 2 (gOf c 3)) (.ready 3 (gOf c 3)))) 10 ?_ ?_ ?_ ?_ ?_
  · rfl
  · exact (by decide +kernel : ∀ d : Dev nD, k0_cond75 d = 1#1 ↔ dest d 10 ≠ d) c
  · exact fun _ => sSem_at 10
  · exact fun _ => rfl
  with_reducible refine step_swait m ρ K c (Carry3 m ρ c (ws (.ready 2 (gOf c 3)) (.ready 3 (gOf c 3)))) 11 ?_ ?_ ?_ ?_ ?_
  · rfl
  · exact (by decide +kernel : ∀ d : Dev nD, k0_cond76 d = 1#1 ↔ dest d 11 ≠ d) c
  · exact fun _ => sSem_at 11
  · exact fun _ => rfl
  with_reducible refine step_swait m ρ K c (Carry3 m ρ c (ws (.ready 2 (gOf c 3)) (.ready 3 (gOf c 3)))) 12 ?_ ?_ ?_ ?_ ?_
  · rfl
  · exact (by decide +kernel : ∀ d : Dev nD, k0_cond77 d = 1#1 ↔ dest d 12 ≠ d) c
  · exact fun _ => sSem_at 12
  · exact fun _ => rfl
  with_reducible refine step_swait m ρ K c (Carry3 m ρ c (ws (.ready 2 (gOf c 3)) (.ready 3 (gOf c 3)))) 13 ?_ ?_ ?_ ?_ ?_
  · rfl
  · exact (by decide +kernel : ∀ d : Dev nD, k0_cond78 d = 1#1 ↔ dest d 13 ≠ d) c
  · exact fun _ => sSem_at 13
  · exact fun _ => rfl
  exact ret_run c (hQ _ _ _)

theorem body_run :
    Bar m ρ K c (Start m ρ c) 0 ⊢ runs c (cc0_body (F := F) (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5) (fun _ => SW m ρ K c (Carry3 m ρ c (ws (.ready 2 (gOf c 3)) (.ready 3 (gOf c 3)))) 16) := by
  rw [cc0_body_eq_skeleton]
  unfold cc0_body_skel
  with_reducible refine bind_run c ?_
  rw [k0_part25_eq_skeleton]
  refine part25_run m ρ K c (fun v2 v764 v775 => ?_)
  dsimp only
  simp only [Prog.lift, Prog.bind_op, Prog.bind_ret, Prog.pure_eq_ret]
  with_reducible refine step_swait m ρ K c (Carry3 m ρ c (ws (.ready 2 (gOf c 3)) (.ready 3 (gOf c 3)))) 14 ?_ ?_ ?_ ?_ ?_
  · rfl
  · exact (by decide +kernel : ∀ d : Dev nD, k0_cond79 d = 1#1 ↔ dest d 14 ≠ d) c
  · exact fun _ => sSem_at 14
  · exact fun _ => rfl
  with_reducible refine step_swait m ρ K c (Carry3 m ρ c (ws (.ready 2 (gOf c 3)) (.ready 3 (gOf c 3)))) 15 ?_ ?_ ?_ ?_ ?_
  · rfl
  · exact (by decide +kernel : ∀ d : Dev nD, k0_cond80 d = 1#1 ↔ dest d 15 ≠ d) c
  · exact fun _ => sSem_at 15
  · exact fun _ => rfl
  exact ret_run c (BI.Entails.refl _)

end Cert.Exchange
-- ==== Proof.Entry.lean ====
/-
# Into the kernel's body and out of it

What a device's core holds when its kernel starts and what it holds when the kernel returns, as the launch theorem
states them, and the body's obligation between the two. On the way in the three scratch buffers are cut into their
slots and the second argument into two halves; on the way out they are put back together.
-/
module

public import proofs.«01_k».proof.Proof.BodyE

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## Buffers cut into slots and put back together -/

theorem spread {T : Type} [Fintype T] [DecidableEq T] {ℓ : Loc nD τ sig} (S : T → Finset (Idx ℓ))
    (hd : ∀ t t', t ≠ t' → Disjoint (S t) (S t')) (hu : ∀ i, ∃ t, i ∈ S t) :
    (iprop(∃ f : Buf (Elt F) ℓ, ℓ ↦{fullShare} f) : sProp 𝕄) ⊢ bigSep Finset.univ fun t => iprop(∃ f : Buf (Elt F) ℓ, ℓ ↦[S t]{fullShare} f) := by
  have hU : (Finset.univ : Finset (Idx ℓ)) = Finset.univ.biUnion S :=
    Finset.ext fun i => by obtain ⟨t, ht⟩ := hu i; exact iff_of_true (Finset.mem_univ i) (Finset.mem_biUnion.mpr ⟨t, Finset.mem_univ t, ht⟩)
  have hm (f : Buf (Elt F) ℓ) (t : T) : (ℓ ↦[S t]{fullShare} f : sProp 𝕄) ⊢ iprop(∃ f : Buf (Elt F) ℓ, ℓ ↦[S t]{fullShare} f) := by
    iintro H; iexists f; iexact H
  have hf (f : Buf (Elt F) ℓ) : (ℓ ↦{fullShare} f : sProp 𝕄) ⊢ bigSep Finset.univ fun t => iprop(∃ f : Buf (Elt F) ℓ, ℓ ↦[S t]{fullShare} f) := by
    rw [hU, pointsTo_biUnion Finset.univ S fun t _ t' _ h => hd t t' h]
    exact bigSep_mono fun t _ => hm f t
  iintro ⟨%f, H⟩
  iapply (hf f)
  iexact H

theorem gather {T : Type} [Fintype T] [DecidableEq T] [Nonempty T] {ℓ : Loc nD τ sig} (S : T → Finset (Idx ℓ))
    (hd : ∀ t t', t ≠ t' → Disjoint (S t) (S t')) (hu : ∀ i, ∃ t, i ∈ S t) :
    (bigSep Finset.univ fun t => iprop(∃ f : Buf (Elt F) ℓ, ℓ ↦[S t]{fullShare} f) : sProp 𝕄) ⊢ iprop(∃ f : Buf (Elt F) ℓ, ℓ ↦{fullShare} f) := by
  have hU : Finset.univ.biUnion S = (Finset.univ : Finset (Idx ℓ)) :=
    Finset.ext fun i => by obtain ⟨t, ht⟩ := hu i; exact iff_of_true (Finset.mem_biUnion.mpr ⟨t, Finset.mem_univ t, ht⟩) (Finset.mem_univ i)
  iintro H
  ihave H := (BI.bigSep_exists_pi Finset.univ (fun (t : T) (f : Buf (Elt F) ℓ) => (ℓ ↦[S t]{fullShare} f : sProp 𝕄))) $$ H
  icases H with ⟨%fs, H⟩
  ihave H := (pointsTo_biUnion_join Finset.univ S fs (fs (Classical.arbitrary T)) fun t _ t' _ h => hd t t' h) $$ H
  icases H with ⟨%g, -, H⟩
  iexists g
  iapply (show (ℓ ↦[Finset.univ.biUnion S]{fullShare} g : sProp 𝕄) ⊢ (ℓ ↦{fullShare} g) from by rw [hU])
  iexact H

theorem wSl_set (i : Fin 2) : (wSl i).view.set = (rs i).set := by
  have h : (wSl i).view.set = ((View.whole cc0_scratch0).slice (rs i)).set := View.set_reshape _ _
  rw [h]; exact View.set_slice_whole _ _
theorem ySl_set (s : Dev nD) : (ySl s).view.set = (r3 s).set := by
  have h : (ySl s).view.set = ((View.whole cc0_scratch1).slice (r3 s)).set := View.set_reshape _ _
  rw [h]; exact View.set_slice_whole _ _
theorem rSl_set (s : Dev nD) : (rSl s).view.set = (r3 s).set := by
  have h : (rSl s).view.set = ((View.whole cc0_scratch2).slice (r3 s)).set := View.set_reshape _ _
  rw [h]; exact View.set_slice_whole _ _

theorem rs_disjoint (i j : Fin 2) (h : i ≠ j) : Disjoint (rs i).set (rs j).set :=
  Rect.unit_disjoint (0 : Fin 3) (by
    have h' : i.val ≠ j.val := fun e => h (Fin.ext e)
    show i.val + 1 ≤ j.val ∨ j.val + 1 ≤ i.val; omega)
theorem rs_cover (x : S2x2048x1024.Idx) : ∃ i, x ∈ (rs i).set :=
  ⟨x 0, Rect.mem_set_unit.mpr fun a => by
    have h1 : (x 1).val < 2048 := (x 1).isLt
    have h2 : (x 2).val < 1024 := (x 2).isLt
    fin_cases a
    · exact ⟨Nat.le_refl _, Nat.lt_succ_self _⟩
    · exact ⟨Nat.zero_le _, by show (x 1).val < 0 + 2048; omega⟩
    · exact ⟨Nat.zero_le _, by show (x 2).val < 0 + 1024; omega⟩⟩
theorem r3_disjoint (i j : Dev nD) (h : i ≠ j) : Disjoint (r3 i).set (r3 j).set :=
  Rect.unit_disjoint (0 : Fin 3) (by
    have h' : i.val ≠ j.val := fun e => h (Fin.ext e)
    show i.val + 1 ≤ j.val ∨ j.val + 1 ≤ i.val; omega)
theorem r3_cover (x : S16x512x256.Idx) : ∃ i, x ∈ (r3 i).set :=
  ⟨x 0, Rect.mem_set_unit.mpr fun a => by
    have h1 : (x 1).val < 512 := (x 1).isLt
    have h2 : (x 2).val < 256 := (x 2).isLt
    fin_cases a
    · exact ⟨Nat.le_refl _, Nat.lt_succ_self _⟩
    · exact ⟨Nat.zero_le _, by show (x 1).val < 0 + 512; omega⟩
    · exact ⟨Nat.zero_le _, by show (x 2).val < 0 + 256; omega⟩⟩

def bufAny (b : Ref sig .tc) : sProp 𝕄 := iprop(∃ f : Buf (Elt F) ((c : Thread nD τ).loc b), ((c : Thread nD τ).loc b) ↦{fullShare} f)

theorem wAny_eq : (bigSep Finset.univ fun t : Fin 2 => wAny (F := F) c t)
    = bigSep Finset.univ fun t : Fin 2 => iprop(∃ f : Buf (Elt F) ((c : Thread nD τ).loc cc0_scratch0), (c : Thread nD τ).loc cc0_scratch0 ↦[(rs t).set]{fullShare} f) :=
  bigSep_congr fun t _ => by unfold wAny; rw [wSl_set]
theorem wAny_split : bufAny (F := F) c cc0_scratch0 ⊢ bigSep Finset.univ fun t => wAny c t := by
  rw [wAny_eq]; exact spread (ℓ := (c : Thread nD τ).loc cc0_scratch0) (fun t => (rs t).set) rs_disjoint rs_cover
theorem wAny_join : (bigSep Finset.univ fun t => wAny (F := F) c t) ⊢ bufAny c cc0_scratch0 := by
  rw [wAny_eq]; exact gather (ℓ := (c : Thread nD τ).loc cc0_scratch0) (fun t => (rs t).set) rs_disjoint rs_cover
theorem yAny_eq : (bigSep Finset.univ fun t : Dev nD => yAny (F := F) c t)
    = bigSep Finset.univ fun t : Dev nD => iprop(∃ f : Buf (Elt F) ((c : Thread nD τ).loc cc0_scratch1), (c : Thread nD τ).loc cc0_scratch1 ↦[(r3 t).set]{fullShare} f) :=
  bigSep_congr fun t _ => by unfold yAny ySlot; rw [ySl_set]
theorem yAny_split : bufAny (F := F) c cc0_scratch1 ⊢ bigSep Finset.univ fun t => yAny c t := by
  rw [yAny_eq]; exact spread (ℓ := (c : Thread nD τ).loc cc0_scratch1) (fun t => (r3 t).set) r3_disjoint r3_cover
theorem yAny_join : (bigSep Finset.univ fun t => yAny (F := F) c t) ⊢ bufAny c cc0_scratch1 := by
  rw [yAny_eq]; exact gather (ℓ := (c : Thread nD τ).loc cc0_scratch1) (fun t => (r3 t).set) r3_disjoint r3_cover
theorem rAny_eq : (bigSep Finset.univ fun t : Dev nD => rAny (F := F) c t)
    = bigSep Finset.univ fun t : Dev nD => iprop(∃ f : Buf (Elt F) ((c : Thread nD τ).loc cc0_scratch2), (c : Thread nD τ).loc cc0_scratch2 ↦[(r3 t).set]{fullShare} f) :=
  bigSep_congr fun t _ => by unfold rAny rSlot; rw [rSl_set]
theorem rAny_split : bufAny (F := F) c cc0_scratch2 ⊢ bigSep Finset.univ fun t => rAny c t := by
  rw [rAny_eq]; exact spread (ℓ := (c : Thread nD τ).loc cc0_scratch2) (fun t => (r3 t).set) r3_disjoint r3_cover
theorem rAny_join : (bigSep Finset.univ fun t => rAny (F := F) c t) ⊢ bufAny c cc0_scratch2 := by
  rw [rAny_eq]; exact gather (ℓ := (c : Thread nD τ).loc cc0_scratch2) (fun t => (r3 t).set) r3_disjoint r3_cover

/-! ## The result's contents -/

/-- The block an index of the result lies in, and its place there. -/
def blkOf (p : S8192x256.Idx) : Dev nD := ⟨(p 0).val / 512, by have : (p 0).val < 8192 := (p 0).isLt; show _ < 16; omega⟩
def inBlk (p : S8192x256.Idx) : S512x256.Idx
  | ⟨0, _⟩ => ⟨(p 0).val % 512, Nat.mod_lt _ (by decide)⟩
  | ⟨1, _⟩ => p 1
/-- What the kernel leaves in device `c`'s result buffer. -/
def outAt : (cc0_stg1_0 : Ref sig .tc).ty.Contents (Elt F) := fun p => outBlk m ρ c (blkOf p) (inBlk p)

theorem ro_emb (p : S8192x256.Idx) : (ro (blkOf p)).emb (inBlk p) = p := funext fun a => Fin.ext (by
  fin_cases a
  · show 512 * ((p 0).val / 512) + 1 * ((p 0).val % 512) = (p 0).val; omega
  · show 0 + 1 * (p 1).val = (p 1).val; omega)

theorem out_eq (f : (cc0_stg1_0 : Ref sig .tc).ty.Contents (Elt F))
    (h : ∀ s, True → ((View.whole cc0_stg1_0).slice (ro s)).read (Elt F) f = outBlk m ρ c s) : f = outAt m ρ c := funext fun p =>
  (congrArg f (ro_emb p)).symm.trans (congrFun (h (blkOf p) trivial) (inBlk p))

/-! ## What the kernel starts from and ends with -/

/-- The positions, tokens and load semaphores device `c` starts from. -/
def Own : sProp 𝕄 :=
  iprop((bigSep Finset.univ fun i : Fin 2 => semVal ((c : Thread nD τ), .dma (lSem i)) 0)
    ∗ (atPos ER (barCell c) 0 ∅ 0 ∗ (bigSep Finset.univ fun s => atPos ER (sendCell c s) 0 ∅ 0) ∗ bigSep Finset.univ fun s => atPos ER (recvCell c s) 0 ∅ 0)
    ∗ (bigSep Finset.univ fun d => other (d = c) (dutyTok ER (barCell d) 0 c))
    ∗ bigSep Finset.univ fun s => other (dest c s = c) iprop(dutyTok ER (sendCell c s) 0 0 ∗ dutyTok ER (recvCell (dest c s) c) 0 0))
/-- The credits device `c`'s waits spend. -/
def Creds : sProp 𝕄 :=
  iprop(cred (tallyAt (barCell c) () 15) ∗ bigSep Finset.univ fun s => other (s = c) (cred (tallyAt (recvCell c s) () N)))
def start : sProp 𝕄 := iprop((∃ K, Rec m ρ K ∗ Own c) ∗ Creds c ∗ argPts m c Finset.univ fullShare)
def Φ₀ : sProp 𝕄 := iprop(start m ρ c ∗ bufAny c cc0_scratch0 ∗ bufAny c cc0_scratch1 ∗ bufAny c cc0_scratch2)
/-- At the end: the argument as it was, the scratch buffers, and every semaphore at zero. -/
def Φ₁ : sProp 𝕄 :=
  iprop(argPts m c Finset.univ fullShare ∗ (bufAny c cc0_scratch0 ∗ bufAny c cc0_scratch1 ∗ bufAny c cc0_scratch2)
    ∗ semVal (barCell c) 0 ∗ (bigSep Finset.univ fun i : Fin 2 => semVal ((c : Thread nD τ), .dma (lSem i)) 0)
    ∗ (bigSep Finset.univ fun s => semVal (sendCell c s) 0) ∗ bigSep Finset.univ fun s => semVal (recvCell c s) 0)

theorem half_split : argPts m c Finset.univ fullShare ⊢ (bigSep Finset.univ fun i : Fin 2 => argPts m c Finset.univ (half i) : sProp 𝕄) := by
  rw [bigSep_univ_two]
  exact (pointsTo_share (PosShare.mem_left_op_right _)).1
theorem half_join : (bigSep Finset.univ fun i : Fin 2 => argPts m c Finset.univ (half i) : sProp 𝕄) ⊢ argPts m c Finset.univ fullShare := by
  rw [bigSep_univ_two]
  exact (pointsTo_share (PosShare.mem_left_op_right _)).2

theorem Slots_intro : iprop(bufAny c cc0_scratch0 ∗ (bigSep Finset.univ fun i : Fin 2 => semVal ((c : Thread nD τ), .dma (lSem i)) 0)
      ∗ argPts m c Finset.univ fullShare) ⊢ (Slots m c (ws .idle .idle) : sProp 𝕄) := by
  have h : (Slots m c (ws .idle .idle) : sProp 𝕄) = iprop((bigSep Finset.univ fun i : Fin 2 => wAny c i)
      ∗ (bigSep Finset.univ fun i : Fin 2 => semVal ((c : Thread nD τ), .dma (lSem i)) 0) ∗ bigSep Finset.univ fun i : Fin 2 => argPts m c Finset.univ (half i)) := by
    rw [← bigSep_sep', ← bigSep_sep']
    exact bigSep_congr fun i _ => by fin_cases i <;> rfl
  rw [h]
  iintro ⟨Hw, Hs, Ha⟩
  isplitl [Hw]; · iapply (wAny_split c); iexact Hw
  isplitl [Hs]; · iexact Hs
  iapply (half_split m c); iexact Ha

theorem Slots_elim (w : Fin 2 → WS) (hw : ∀ i, (w i).free) : (Slots m c w : sProp 𝕄)
    ⊢ iprop(bufAny c cc0_scratch0 ∗ (bigSep Finset.univ fun i : Fin 2 => semVal ((c : Thread nD τ), .dma (lSem i)) 0)
      ∗ argPts m c Finset.univ fullShare) := by
  have h : (Slots m c w : sProp 𝕄) ⊢ iprop((bigSep Finset.univ fun i : Fin 2 => wAny c i)
      ∗ (bigSep Finset.univ fun i : Fin 2 => semVal ((c : Thread nD τ), .dma (lSem i)) 0) ∗ bigSep Finset.univ fun i : Fin 2 => argPts m c Finset.univ (half i)) := by
    rw [← bigSep_sep', ← bigSep_sep']
    exact bigSep_mono fun i _ => WRes_idle m c i (w i) (hw i)
  refine h.trans ?_
  iintro ⟨Hw, Hs, Ha⟩
  isplitl [Hw]; · iapply (wAny_join c); iexact Hw
  isplitl [Hs]; · iexact Hs
  iapply (half_join m c); iexact Ha

/-- The receive cells by their place in the order of receiving. -/
theorem Pos_intro : iprop((bigSep Finset.univ fun s => atPos ER (sendCell c s) 0 ∅ 0) ∗ (bigSep Finset.univ fun s => atPos ER (recvCell c s) 0 ∅ 0)
      ∗ bigSep Finset.univ fun s => other (s = c) (cred (tallyAt (recvCell c s) () N))) ⊢ (Pos (F := F) c : sProp 𝕄) := by
  unfold Pos
  rw [bigSep_sep', bigSep_univ_equiv (srcE c) (fun s => (atPos ER (recvCell c s) 0 ∅ 0 : sProp 𝕄)),
    bigSep_univ_equiv (srcE c) (fun s => (other (s = c) (cred (tallyAt (recvCell c s) () N)) : sProp 𝕄))]
  exact BI.Entails.refl _

theorem body_enter (f : Buf (Elt F) ((c : Thread nD τ).loc cc0_stg1_0)) :
    iprop((Rec m ρ K ∗ Own c ∗ Creds c ∗ argPts m c Finset.univ fullShare ∗ bufAny c cc0_scratch0 ∗ bufAny c cc0_scratch1 ∗ bufAny c cc0_scratch2)
        ∗ Owes c (O₀ c) ∗ XPts m ρ c ∗ ((c : Thread nD τ).loc cc0_stg1_0 ↦{fullShare} f))
      ⊢ (Bar m ρ K c (Start m ρ c) 0 : sProp 𝕄) := by
  unfold Bar Own Creds
  rw [fam_zero, show bigSep Finset.univ (barTodo (F := F) c) = iprop((bigSep Finset.univ fun d => rAny c d)
    ∗ bigSep Finset.univ fun d => other (d = c) (dutyTok ER (barCell d) 0 c)) from bigSep_sep' _ _ _]
  unfold Start Kept
  iintro ⟨⟨#HR, ⟨Hl, ⟨HaB, HaS, HaV⟩, HtB, HtS⟩, ⟨HcB, HcV⟩, Harg, Hb0, Hb1, Hb2⟩, Ho, Hx, Hout⟩
  isplitr; · iexact HR
  isplitl [Ho]; · iexact Ho
  isplitl [Hb2 HtB]
  · isplitl [Hb2]; · iapply (rAny_split c); iexact Hb2
    iexact HtB
  isplitl [HaB HcB]
  · isplitl [HaB]; · iexact HaB
    iexact HcB
  isplitl [Hb0 Hl Harg]
  · iapply (Slots_intro m c)
    isplitl [Hb0]; · iexact Hb0
    isplitl [Hl]; · iexact Hl
    iexact Harg
  isplitl [Hb1]; · iapply (yAny_split c); iexact Hb1
  isplitl [Hx]; · iexact Hx
  isplitl [Hout]
  · unfold Out
    iexists f
    isplitr
    · ipureintro; intro s h; exact h.elim
    iexact Hout
  isplitl [HtS]; · iexact HtS
  iapply (Pos_intro c)
  isplitl [HaS]; · iexact HaS
  isplitl [HaV]; · iexact HaV
  iexact HcV

theorem body_leave (w : Fin 2 → WS) (hw : ∀ i, (w i).free) : (SW m ρ K c (Carry3 m ρ c w) 16 : sProp 𝕄)
    ⊢ iprop(Φ₁ m c ∗ Owes c 0 ∗ XPts m ρ c ∗ ((c : Thread nD τ).loc cc0_stg1_0 ↦{fullShare} outAt m ρ c)) := by
  unfold SW Carry3
  rw [fam_all, show bigSep Finset.univ (swDone (F := F) c) = iprop((bigSep Finset.univ fun s => semVal (sendCell c s) 0) ∗ bigSep Finset.univ fun s => yAny c s) from bigSep_sep' _ _ _,
    show (bigSep Finset.univ fun r => rvDone (F := F) c r) = iprop((bigSep Finset.univ fun r => semVal (recvCell c (srcE c r)) 0)
      ∗ bigSep Finset.univ fun r => rAny c (srcE c r)) from bigSep_sep' _ _ _,
    ← bigSep_univ_equiv (srcE c) (fun s => (semVal (recvCell c s) 0 : sProp 𝕄)), ← bigSep_univ_equiv (srcE c) (fun s => (rAny c s : sProp 𝕄))]
  unfold Φ₁ Out
  iintro ⟨-, Ho, ⟨HvS, Hy⟩, HvB, Hslots, Hx, ⟨%f, %hf, Hout⟩, HvV, Hr⟩
  obtain rfl := out_eq m ρ c f hf
  ihave H := (Slots_elim m c w hw) $$ Hslots
  icases H with ⟨Hb0, Hl, Harg⟩
  isplitl [HvS Hy HvB HvV Hr Hb0 Hl Harg]
  · isplitl [Harg]; · iexact Harg
    isplitl [Hb0 Hy Hr]
    · isplitl [Hb0]; · iexact Hb0
      isplitl [Hy]; · iapply (yAny_join c); iexact Hy
      iapply (rAny_join c); iexact Hr
    isplitl [HvB]; · iexact HvB
    isplitl [Hl]; · iexact Hl
    isplitl [HvS]; · iexact HvS
    iexact HvV
  isplitl [Ho]; · iexact Ho
  isplitl [Hx]; · iexact Hx
  iexact Hout

/-! ## The proof data and the body's obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ
theorem fetch_0 (t : Fin cfg0.N) : (cfg0.win (0 : Fin 2)).fetch t = true := by rw [fin_N t]; rfl
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
def bodyPre : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost : sProp 𝕄 :=
  iprop(Φ₁ m c ∗ (dats m ρ 0 c).owesAt () t₀.succ ∗ stg c cc0_stg0_0 (xstg m ρ c) ∗ stg c cc0_stg1_0 (outAt m ρ c))

theorem post_intro : iprop(Φ₁ m c ∗ Owes c 0 ∗ XPts m ρ c ∗ ((c : Thread nD τ).loc cc0_stg1_0 ↦{fullShare} outAt m ρ c)) ⊢ (bodyPost m ρ c : sProp 𝕄) := by
  unfold bodyPost Owes XPts Pipeline.Dat.owesAt Pipeline.owesWithin
  rw [show (dats m ρ 0 c).owed t₀.succ = 0 from rfl]
  iintro ⟨HΦ, ⟨%W, Ho⟩, Hx, Hout⟩
  isplitl [HΦ]; · iexact HΦ
  isplitl [Ho]
  · iexists W
    isplitr; · ipureintro; exact fun _ _ => Or.inl trivial
    iexact Ho
  isplitl [Hx]
  · iexists _; isplitr; · (ipureintro; rfl)
    iexact Hx
  iexists _; isplitr; · (ipureintro; rfl)
  iexact Hout

theorem pre_elim : (bodyPre m ρ c : sProp 𝕄) ⊢ iprop(∃ K, Bar m ρ K c (Start m ρ c) 0) := by
  unfold bodyPre Φ₀ start Pipeline.Dat.owesAt Pipeline.owesWithin
  rw [show (dats m ρ 0 c).owed t₀.castSucc = O₀ c from rfl]
  iintro ⟨⟨⟨⟨%K, HR, HOwn⟩, HC, Harg⟩, Hb0, Hb1, Hb2⟩, ⟨%W, %hW, Ho⟩, ⟨%d0, %g0, %hg0, Hx⟩, ⟨%d1, %g1, %hg1, Hout⟩⟩
  have hx : g0 = xstg m ρ c := by rw [hg0]; unfold Pipeline.Dat.before; rw [if_pos (fetch_0 t₀)]; rfl
  subst hx
  iexists K
  iapply (body_enter m ρ K c g1)
  unfold Owes XPts
  isplitl [HR HOwn HC Harg Hb0 Hb1 Hb2]
  · isplitl [HR]; · iexact HR
    isplitl [HOwn]; · iexact HOwn
    isplitl [HC]; · iexact HC
    isplitl [Harg]; · iexact Harg
    isplitl [Hb0]; · iexact Hb0
    isplitl [Hb1]; · iexact Hb1
    iexact Hb2
  isplitl [Ho]
  · iexists W; iexact Ho
  isplitl [Hx]; · iexact Hx
  iexact Hout

set_option maxRecDepth 4000 in
theorem body_obligation (c : Dev nD) : Pipeline.BodyObligation (dats (F := F) m ρ 0 c) (defs₀ (F := F)) 𝒱₀ () Set.univ := fun t => by
  rw [fin_N t]
  rw [bigSep_W, bigSep_W]
  simp only [owns_whole_eq]
  refine (pre_elim m ρ c).trans ?_
  iintro ⟨%K, H⟩
  iapply ((body_run m ρ K c).trans (wp_mono _ _ _ fun _ => (body_leave m ρ K c _ fun i => by fin_cases i <;> trivial).trans (post_intro m ρ c)))
  iexact H

end Cert.Exchange
-- ==== Proof.Launch.lean ====
/-
# The launch

The exchange's cells are allocated on all devices at once, the tokens are dealt to the devices that pay with them, and
what every device owes at launch is split into the credits the waits spend. `run_main` is the run of the whole program:
every execution ends, each device's arguments hold what they held, its result holds the blocks the exchange delivered,
and every semaphore is back at zero.
-/
module

public import proofs.«01_k».proof.Proof.Entry
public import Idealize.ShloMosaic.Lib.Quiescent
public import Idealize.ShloMosaic.Lib.Pipeline.Quiescent

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## The kernel's own semaphores -/

abbrev OI : Type := Fin 2 ⊕ (Dev nD ⊕ Dev nD)
def osem : OI → SemLoc sig
  | .inl i => .dma (lSem i)
  | .inr (.inl s) => .dma (sSem s)
  | .inr (.inr s) => .dma (rSem s)

theorem dma_scoped : ∀ q : DmaSem sig, (SemLoc.dma q : SemLoc sig).isScoped .tc = true := by decide
theorem osem_val : ∀ k : OI, ∃ q : DmaSem sig, osem k = .dma q ∧ 2 ≤ q.val
  | .inl i => ⟨_, rfl, Nat.le_add_right 2 i.val⟩
  | .inr (.inl s) => ⟨_, rfl, by show 2 ≤ 4 + s.val; omega⟩
  | .inr (.inr s) => ⟨_, rfl, by show 2 ≤ 20 + s.val; omega⟩
def oval : OI → ℕ
  | .inl i => 2 + i.val
  | .inr (.inl s) => 4 + s.val
  | .inr (.inr s) => 20 + s.val
def semNo : SemLoc sig → ℕ
  | .reg _ => 0
  | .dma q => q.val
theorem semNo_osem : ∀ k, semNo (osem k) = oval k
  | .inl _ => rfl
  | .inr (.inl _) => rfl
  | .inr (.inr _) => rfl
theorem oval_inj : ∀ k k' : OI, oval k = oval k' → k = k'
  | .inl i, .inl j, h => congrArg Sum.inl (Fin.ext (by simp only [oval] at h; omega))
  | .inl i, .inr (.inl s), h => by have hi := i.isLt; simp only [oval] at h; omega
  | .inl i, .inr (.inr s), h => by have hi := i.isLt; simp only [oval] at h; omega
  | .inr (.inl s), .inl i, h => by have hi := i.isLt; simp only [oval] at h; omega
  | .inr (.inl s), .inr (.inl s'), h => congrArg (fun z => Sum.inr (Sum.inl z)) (Fin.ext (by simp only [oval] at h; omega))
  | .inr (.inl s), .inr (.inr s'), h => by have hs : s.val < 16 := s.isLt; simp only [oval] at h; omega
  | .inr (.inr s), .inl i, h => by have hi := i.isLt; simp only [oval] at h; omega
  | .inr (.inr s), .inr (.inl s'), h => by have hs : s'.val < 16 := s'.isLt; simp only [oval] at h; omega
  | .inr (.inr s), .inr (.inr s'), h => congrArg (fun z => Sum.inr (Sum.inr z)) (Fin.ext (by simp only [oval] at h; omega))
theorem stage_low : ∀ (w : Fin 2) (s : Fin (spec0 w).nbuf), semNo (.dma ((spec0 w).sem s)) < 2 := by decide
theorem ownSemFacts : Pipeline.OwnSemFacts spec0 osem where
  isScoped k := by obtain ⟨q, hq, -⟩ := osem_val k; rw [hq]; exact dma_scoped q
  inj k k' h := oval_inj k k' (by rw [← semNo_osem, ← semNo_osem, h])
  disj k w s h := by
    obtain ⟨q, hq, h2⟩ := osem_val k
    have h3 := stage_low w s
    rw [← h, hq] at h3
    exact absurd h3 (Nat.not_lt.mpr h2)

theorem ownSems0_eq : (Pipeline.ownSems0 (Ix := Unit) (Name := ℕ) (U := UU) (Lvl := ℕ) (Val := Elt F) (τ := τ) osem c : sProp 𝕄)
    = iprop((bigSep Finset.univ fun i : Fin 2 => semVal ((c : Thread nD τ), .dma (lSem i)) 0)
      ∗ (bigSep Finset.univ fun s => semVal (sendCell c s) 0) ∗ bigSep Finset.univ fun s => semVal (recvCell c s) 0) := by
  unfold Pipeline.ownSems0; rw [BI.bigSep_univ_sum, BI.bigSep_univ_sum]; rfl
theorem unscopedSems0_eq : (unscopedSems0 c : sProp 𝕄) = semVal (barCell c) 0 := by
  unfold unscopedSems0; rw [bigSep_eq_bigSepL_of_eq [SemLoc.reg barS] (by decide) (by decide)]; rfl

/-- A family over a device's cells, by kind. -/
theorem bigSep_CI (Φ : CI → sProp 𝕄) : bigSep Finset.univ Φ
    = iprop(Φ (.inl ()) ∗ (bigSep Finset.univ fun s => Φ (.inr (.inl s))) ∗ bigSep Finset.univ fun s => Φ (.inr (.inr s))) := by
  rw [BI.bigSep_univ_sum, BI.bigSep_univ_sum, bigSep_univ_of_subsingleton (I := Unit) ()]; rfl

theorem sems0_eq : iprop(Pipeline.ownSems0 (Ix := Unit) (Name := ℕ) (U := UU) (Lvl := ℕ) (Val := Elt F) (τ := τ) osem c ∗ unscopedSems0 c)
    ⊢ (iprop((bigSep Finset.univ fun i : Fin 2 => semVal ((c : Thread nD τ), .dma (lSem i)) 0)
      ∗ bigSep Finset.univ fun k : CI => semVal (kcell (c, k)) 0) : sProp 𝕄) := by
  rw [ownSems0_eq, unscopedSems0_eq, bigSep_CI]
  iintro ⟨⟨HL, HS, HV⟩, HB⟩
  isplitl [HL]; · iexact HL
  isplitl [HB]; · iexact HB
  isplitl [HS]; · iexact HS
  iexact HV

/-! ## The cells and the tokens at launch -/

def exCells : Finset (GSem nD τ sig) := Finset.univ.map ⟨kcell, kcell_injective⟩

/-- The tokens, each indexed by the device that pays with it. -/
abbrev TI : Type := Dev nD × (Dev nD ⊕ (Dev nD ⊕ Dev nD))
def tokOf : TI → GSem nD τ sig × ℕ × Dev nD
  | (c, .inl d) => (barCell d, 0, c)
  | (c, .inr (.inl s)) => (sendCell c s, 0, 0)
  | (c, .inr (.inr s)) => (recvCell (dest c s) c, 0, 0)
/-- A token's payer and place, read off the token. -/
def tokBack (x : GSem nD τ sig × ℕ × Dev nD) : TI :=
  match kind x.1.2 with
  | some (.inl _) => (x.2.2, .inl x.1.1.1)
  | some (.inr (.inl s)) => (x.1.1.1, .inr (.inl s))
  | some (.inr (.inr s)) => (s, .inr (.inr (place s x.1.1.1)))
  | none => (0, .inl 0)
theorem tokBack_tokOf : ∀ x, tokBack (tokOf x) = x
  | (c, .inl d) => rfl
  | (c, .inr (.inl s)) => by unfold tokBack tokOf; dsimp only; rw [kind_send]
  | (c, .inr (.inr s)) => by unfold tokBack tokOf; dsimp only; rw [kind_recv]; dsimp only; rw [place_dest]
theorem tokOf_injective : Function.Injective tokOf := Function.LeftInverse.injective tokBack_tokOf
def exToks : Finset (GSem nD τ sig × ℕ × Dev nD) := Finset.univ.map ⟨tokOf, tokOf_injective⟩

def u₀ : UU :=
  (initOf (Pipeline.cells cfgs cellOf_inj) (Pipeline.launchToks cfgs cellOf_inj), (initOf exCells exToks, 1))

/-- The tokens of the duties device `c` pays. -/
def toks : sProp 𝕄 :=
  iprop((bigSep Finset.univ fun d => dutyTok ER (barCell d) 0 c) ∗ (bigSep Finset.univ fun s => dutyTok ER (sendCell c s) 0 0)
    ∗ bigSep Finset.univ fun s => dutyTok ER (recvCell (dest c s) c) 0 0)
/-- What the launch deals device `c`. -/
def G : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks c)
/-- The cells' invariants and the marks that each has begun. -/
def Cells : sProp 𝕄 :=
  iprop(bigSep Finset.univ (fun x => cellInv ER (Rd m ρ) (K x) (kcell x)) ∗ bigSep Finset.univ (fun x => reached ER (kcell x) 0))
instance Cells_persistent : BI.Persistent (Cells (F := F) m ρ K) := by unfold Cells; infer_instance
/-- What the global step makes of it. -/
def G' : sProp 𝕄 := iprop(∃ K, Cells m ρ K ∗ Own c)

theorem fund_cells : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [BI.bigSep_univ_sum, BI.bigSep_univ_sum]; rfl
  iintro HX
  imod (Rounds.fund ER (Rd m ρ) exCells exToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem other_intro (p : Prop) [Decidable p] (P : sProp 𝕄) : P ⊢ other p P := by
  by_cases h : p
  · rw [other_pos h]; iintro -; iempintro
  · rw [other_neg h]

theorem mono_univ {Φ Ψ : Dev nD → sProp 𝕄} (h : ∀ d, Φ d ⊢ Ψ d) : bigSep Finset.univ Φ ⊢ bigSep Finset.univ Ψ := bigSep_mono fun d _ => h d

theorem core_alloc :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => reached ER (kcell (c, k)) 0) ∗ Own c) := by
  unfold G
  rw [bigSep_sep']
  iintro ⟨Hos, Hus, Hst, ⟨Hat, Hr⟩, Htok⟩
  ihave Hv := (sems0_eq (F := F) c) $$ [Hos Hus]
  · isplitl [Hos] <;> iassumption
  icases Hv with ⟨Hl, Hv⟩
  imod (show iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hr]; · iexact Hr
  unfold Own toks
  icases Htok with ⟨HtB, HtS, HtV⟩
  isplitl [Hl]; · iexact Hl
  isplitl [Hat]
  · iapply (Entails.of_eq (bigSep_CI (F := F) fun k => atPos ER (kcell (c, k)) 0 ∅ 0)); iexact Hat
  isplitl [HtB]
  · iapply (mono_univ fun d => other_intro (d = c) (dutyTok ER (barCell d) 0 c)); iexact HtB
  iapply (mono_univ fun s => other_intro (dest c s = c) iprop(dutyTok ER (sendCell c s) 0 0 ∗ dutyTok ER (recvCell (dest c s) c) 0 0))
  rw [bigSep_sep']
  isplitl [HtS]; · iexact HtS
  iexact HtV

theorem with_persistent {R : sProp 𝕄} [BI.Persistent R] (Φ Ψ : Dev nD → sProp 𝕄)
    (h : ∀ i, iprop(R ∗ Φ i) ⊢ Ψ i) : iprop(R ∗ bigSep Finset.univ Φ) ⊢ bigSep Finset.univ Ψ :=
  (sep_mono_left (BI.bigSep_of_persistent Finset.univ R)).trans (by rw [← bigSep_sep']; exact bigSep_mono fun i _ => h i)

theorem regroup :
    (bigSep Finset.univ fun c : Dev nD => iprop((bigSep Finset.univ fun k => iprop(∃ κ : ℕ, cellInv ER (Rd m ρ) κ (kcell (c, k))))
          ∗ (bigSep Finset.univ fun k => reached ER (kcell (c, k)) 0) ∗ Own c) : sProp 𝕄)
      ⊢ bigSep Finset.univ (G' m ρ) := by
  rw [bigSep_sep', bigSep_sep', ← bigSep_univ_prod (fun x : Dev nD × CI => iprop(∃ κ : ℕ, cellInv ER (Rd m ρ) κ (kcell x))),
    ← bigSep_univ_prod (fun x : Dev nD × CI => (reached ER (kcell x) 0 : sProp 𝕄))]
  iintro ⟨HI, #HR, HO⟩
  ihave HK := (BI.bigSep_exists_pi Finset.univ (fun (x : Dev nD × CI) (κ : ℕ) => (cellInv ER (Rd m ρ) κ (kcell x) : sProp 𝕄))) $$ HI
  icases HK with ⟨%K, #HI⟩
  iapply (with_persistent (R := Cells m ρ K) Own (G' m ρ) fun c => by unfold G'; iintro ⟨HC, HO⟩; iexists K; isplitl [HC]; · iexact HC
                                                                      iexact HO)
  isplitr
  · unfold Cells; isplitl; · iexact HI
    iexact HR
  iexact HO

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

theorem bar_ne_recv (a b s : Dev nD) : barCell a ≠ recvCell b s := fun h => by
  have := congrArg (fun g : GSem nD τ sig => kind g.2) h
  dsimp only at this
  rw [kind_bar, kind_recv] at this
  cases this
theorem recv_inj {a b s t : Dev nD} (h : recvCell a s = recvCell b t) : a = b ∧ s = t := by
  have h1 := congrArg (fun g : GSem nD τ sig => kind g.2) h
  dsimp only at h1
  rw [kind_recv, kind_recv] at h1
  exact ⟨congrArg (fun g : GSem nD τ sig => g.1.1) h, Sum.inr.inj (Sum.inr.inj (Option.some.inj h1))⟩

theorem all_from_zero : (Finset.univ.filter fun d : Dev nD => 0 ≤ d.val) = Finset.univ := Finset.filter_true_of_mem fun _ _ => Nat.zero_le _
theorem sum_at {I : Type} (S : Finset I) (D : I → Ow) (g : GSem nD τ sig) : (∑ i ∈ S, D i) g () = ∑ i ∈ S, D i g () := by
  rw [Finset.sum_apply, Finsupp.finset_sum_apply]

theorem owed_bar (d c : Dev nD) : O₀ d (barCell c) () = if c = d then 0 else 1 := by
  have hR : OR d 0 (barCell c) () = 0 := Nat.eq_zero_of_not_pos fun h => by
    obtain ⟨e, he⟩ := OR_pos h; exact bar_ne_recv _ _ _ he
  unfold O₀
  rw [Pi.add_apply, Finsupp.add_apply, hR, Nat.zero_add]
  unfold OB
  rw [all_from_zero, sum_at, Finset.sum_eq_single c (fun b _ hb => Nat.eq_zero_of_not_pos fun h =>
    hb (congrArg (fun g : GSem nD τ sig => g.1.1) (barDue_pos h)).symm) fun h => absurd (Finset.mem_univ c) h]
  unfold barDue
  by_cases h : c = d
  · rw [if_pos h, if_pos h]; rfl
  · rw [if_neg h, if_neg h, tallyAt_apply, if_pos ⟨rfl, rfl⟩]

theorem owed_recv (d c s : Dev nD) (hs : s ≠ c) : O₀ d (recvCell c s) () = if d = s then N else 0 := by
  have hB : OB d 0 (recvCell c s) () = 0 := Nat.eq_zero_of_not_pos fun h => by
    obtain ⟨e, he⟩ := OB_pos h; exact bar_ne_recv _ _ _ he.symm
  unfold O₀
  rw [Pi.add_apply, Finsupp.add_apply, hB, Nat.add_zero]
  unfold OR
  rw [all_from_zero, sum_at, Finset.sum_eq_single (place d c) (fun b _ hb => Nat.eq_zero_of_not_pos fun h =>
    hb (by rw [(recv_inj (recvDue_pos h)).1, place_dest])) fun h => absurd (Finset.mem_univ _) h]
  unfold recvDue
  rw [dest_place]
  by_cases h : d = s
  · subst h; rw [if_neg (Ne.symm hs), tallyAt_apply, if_pos ⟨rfl, rfl⟩, if_pos rfl]
  · rw [if_neg h]
    split
    · rfl
    · rw [tallyAt_apply, if_neg fun h' => h (recv_inj h'.1).2.symm]

theorem sum_others : ∀ c : Dev nD, (∑ d : Dev nD, if c = d then 0 else 1) = 15 := by decide

theorem launch_bar : tallyOn (barCell c) (launchCredit (Pipeline.owing O₀) 0 (barCell c)) = (tallyAt (barCell c) () 15 : Ow) := by
  unfold tallyAt; refine congrArg _ (Finsupp.ext fun u => ?_); cases u
  rw [Pipeline.launchCredit_owing, Finsupp.single_eq_same, Finset.sum_congr rfl fun d _ => owed_bar d c]
  exact sum_others c
theorem launch_recv (s : Dev nD) (hs : s ≠ c) :
    tallyOn (recvCell c s) (launchCredit (Pipeline.owing O₀) 0 (recvCell c s)) = (tallyAt (recvCell c s) () N : Ow) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

theorem creds : (Pipeline.launchCred O₀ c : sProp 𝕄) ⊢ Creds c := by
  unfold Pipeline.launchCred Creds
  have h : (bigSep Finset.univ fun sm : SemLoc sig => (cred (tallyOn ((c : Thread nD τ), sm) (launchCredit (Pipeline.owing O₀) 0 ((c : Thread nD τ), sm))) : sProp 𝕄))
      ⊢ bigSep Finset.univ fun k : CI => cred (tallyOn (kcell (c, k)) (launchCredit (Pipeline.owing O₀) 0 (kcell (c, k)))) := by
    refine (BI.bigSep_subset (Finset.subset_univ (Finset.univ.map ⟨csem, csem_injective⟩))).trans ?_
    rw [bigSep_map]; exact BI.Entails.refl _
  refine h.trans ?_
  rw [bigSep_CI]
  iintro ⟨HB, -, HV⟩
  isplitl [HB]; · iapply (Entails.of_eq (congrArg (fun O : Ow => (cred O : sProp 𝕄)) (launch_bar c))); iexact HB
  iapply (mono_univ (fun s => show (cred (tallyOn (recvCell c s) (launchCredit (Pipeline.owing O₀) 0 (recvCell c s))) : sProp 𝕄)
      ⊢ other (s = c) (cred (tallyAt (recvCell c s) () N)) from by
    by_cases hs : s = c
    · rw [other_pos hs]; iintro -; iempintro
    · rw [other_neg hs, launch_recv c s hs]))
  iexact HV

/-! ## The launch theorem's side conditions -/

theorem share_eq (c : Dev nD) (w : Fin cfg0.W) : (dats m ρ 0 c).share w = fullShare := by unfold Pipeline.Dat.share; split <;> rfl

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show (Pipeline.unscopedRest cfg0.spec c (fun b => m ((c : Thread nD τ).loc b)) : sProp 𝕄) = argPts m c Finset.univ fullShare from
    unscopedRest0_eq c (fun b => m ((c : Thread nD τ).loc b))]
  unfold start G' Rec Cells
  iintro ⟨Harg, Hlev, Hcr, -, ⟨%K, HC, HO⟩⟩
  imodintro
  isplitl
  · isplitl [Hlev HC HO]
    · iexists K
      isplitl [Hlev HC]
      · isplitl [Hlev]; · iexact Hlev
        iexact HC
      iexact HO
    isplitl [Hcr]; · iapply (creds (F := F) c); iexact Hcr
    iexact Harg
  iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufAny
  iintro ⟨Hs, -, Hr⟩
  isplitl [Hs]; · iexact Hs
  iexact Hr

theorem phi1_exit :
    (dats m ρ 0 c).Φ (Fin.last cfg0.N) ⊢ iprop((unscopedSems0 c ∗ argPts m c Finset.univ fullShare) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ bufAny
  iintro ⟨Harg, Hb, HzB, HzL, HzS, HzV⟩
  isplitl [HzB Harg]
  · isplitl [HzB]; · iexact HzB
    iexact Harg
  isplitl [HzL HzS HzV]
  · isplitl [HzL]; · iexact HzL
    isplitl [HzS]; · iexact HzS
    iexact HzV
  iexact Hb

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr (Or.inr rfl))

/-! ## The run -/

def finalA (c : Dev nD) (w : Fin cfg0.W) : Buf (Elt F) ((cfg0.win w).arr.view.loc (c : Thread nD τ)) := (dats m ρ 0 c).arrAt w cfg0.N

/-- The end of a run: the windows' arrays, the second argument, the semaphores. -/
def QC : PUnit × MemSt nD τ sig (Elt F) → Prop := fun r =>
  (∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)) ∧ r.2.sem = fun _ => 0

theorem own_eq : (BI.own (embR (initOf exCells exToks, (1 : Counters))) : sProp 𝕄) = BI.own (ER (initOf exCells exToks)) := rfl

set_option maxRecDepth 8000 in
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      ihave HX := (Entails.of_eq own_eq) $$ HX
      imod (fund_cells m ρ) $$ HX with HG
      imodintro
      isplitl [HP] <;> iassumption)
    (hglob := glob m ρ)
    (hA := fun _ _ => rfl) (hpf := fun _ k => k.elim0)
    (X := start m ρ) (Y := fun c => iprop(unscopedSems0 c ∗ argPts m c Finset.univ fullShare)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨⟨Hu, Ha⟩, -, HSI⟩
      unfold argPts
      ihave %hag := (SI_pointsTo_agree) $$ [HSI Ha]
      · isplitl [HSI] <;> iassumption
      ihave %hz := (tcUnscoped_read c s') $$ [Hu HSI]
      · isplitl [Hu] <;> iassumption
      imodintro
      isplitr
      · ipureintro; exact ⟨hz, funext fun i => hag i (Finset.mem_univ i)⟩
      iexact HSI)
    (hQ := fun _ h hs => ⟨fun c => ⟨fun w => (h c).1 w, (h c).2.2.2⟩, sem_eq_zero hs fun c => (h c).2.2.1⟩)

/-- The first argument is what it was. -/
theorem finalA_x : finalA m ρ c (0 : Fin 2) = (s₀ m ρ).mem (win0_0.arr.view.loc (c : Thread nD τ)) :=
  (dats (F := F) m ρ 0 c).arrAt_in (0 : Fin 2) rfl _
/-- The result array holds what the kernel left in its buffer. -/
theorem finalA_out : (win0_1.blk (0 : Fin 1)).view.read (Elt F) (finalA m ρ c (1 : Fin 2)) = outAt m ρ c := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

end Cert.Exchange
-- ==== Proof.Value.lean ====
/-
# The values

Over the extended reals the kernel's result is the reference's. One entry of a device's product is four partial sums of
2048 terms each, which together are the reference's one sum of 8192 terms; the activation is the same function of that
entry, up to the order of two multiplications; sending a tile as bf16 and widening it again changes nothing. What remains
is which entry of which device's product ends at which place of the result.
-/
module

public import proofs.«01_k».proof.Proof.Launch
public import proofs.«01_k».proof.Proof.Gen.ReferenceIdeal.Run
public import Idealize.ShloMosaic.PureOps.Ideal
public import Idealize.ShloMosaic.Lib.MatmulPlain
public import Idealize.ShloMosaic.Lib.StackMember
public import Idealize.ShloMosaic.Lib.ValueLayout
public import Idealize.ShloMosaic.Lib.Pipeline.Value

@[expose] public section

noncomputable section

namespace Cert.Exchange

open Cert.KernelIdeal Cert.KernelIdeal.Gen
open Idealize.ShloMosaic Idealize.ShloMosaic.TcCoe Idealize.ShloMosaic.ValueIdx
open scoped BigOperators

/-! ## Sums and the activation -/

/-- A sum of 8192 terms, as the four sums of 2048 terms it is made of. -/
theorem sum_pieces (f : Fin 8192 → EReal) :
    ∑ i, f i = (((∑ i : Fin 2048, f ⟨2048 * 0 + i.val, by omega⟩) + ∑ i : Fin 2048, f ⟨2048 * 1 + i.val, by omega⟩)
      + ∑ i : Fin 2048, f ⟨2048 * 2 + i.val, by omega⟩) + ∑ i : Fin 2048, f ⟨2048 * 3 + i.val, by omega⟩ := by
  rw [Fin.sum_univ_add (a := 6144) (b := 2048), Fin.sum_univ_add (a := 4096) (b := 2048),
    Fin.sum_univ_add (a := 2048) (b := 2048)]
  refine congrArg₂ (· + ·) (congrArg₂ (· + ·) (congrArg₂ (· + ·) ?_ ?_) ?_) ?_
  all_goals exact Finset.sum_congr rfl fun i _ => congrArg f (Fin.ext (by simp [Nat.add_comm]))

/-- The activation of one entry. -/
def gelu (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * (y * y * y))))

theorem zero_bits : Ideal.ofBits .f32 0x00000000#32 = 0 := by simp [Ideal.ofBits, Ideal.ieee]

/-! ## One product tile -/

/-- An entry of one partial product. -/
theorem part_apply (v : Vec Ideal S512x2048 .bf16) (w : Vec Ideal S1x2048x1024 .bf16) (r : Fin 512) (q : Fin 1024) :
    k0_pay1 (F := Ideal) v w (ix2 r q)
      = ∑ i : Fin 2048, (v (ix2 r i) : EReal) * (w (ix3 (0 : Fin 1) i q) : EReal) := by
  unfold k0_pay1
  refine (Ideal.matmul_plain_apply (M := 512) (K := 2048) (N := 1024) (φ₁ := .bf16) (φ₂ := .bf16) none _ _ _ r q).trans ?_
  rw [show (constant S512x1024 .f32 0x00000000#32 : FVec Ideal S512x1024 .f32) (ix2 r q) = 0 from zero_bits, zero_add]
  refine Finset.sum_congr rfl fun i _ => ?_
  exact congrArg₂ (· * ·) (congrFun (shapeCast_self v _) _) (shapeCast_1ab_ab_apply (a := 2048) (b := 1024) w _ i q)

theorem pay2_apply (a : FVec Ideal S512x1024 .f32) (v : Vec Ideal S512x2048 .bf16) (w : Vec Ideal S1x2048x1024 .bf16) :
    k0_pay2 (F := Ideal) a v w = fun j => (a j : EReal) + k0_pay1 (F := Ideal) v w j := rfl
theorem pay3_apply (a : FVec Ideal S512x1024 .f32) (v : Vec Ideal S512x2048 .bf16) (w : Vec Ideal S1x2048x1024 .bf16) :
    k0_pay3 (F := Ideal) a v w = fun j => (a j : EReal) + k0_pay1 (F := Ideal) v w j := rfl
/-- The last partial product is added and the activation applied. -/
theorem pay4_apply (a : FVec Ideal S512x1024 .f32) (v : Vec Ideal S512x2048 .bf16) (w : Vec Ideal S1x2048x1024 .bf16)
    (j : S512x1024.Idx) :
    k0_pay4 (F := Ideal) a v w j = gelu ((a j : EReal) + k0_pay1 (F := Ideal) v w j) := by
  have e : ∀ k y : EReal, k * (y * y * y) = k * y * y * y := fun k y => by rw [← mul_assoc, ← mul_assoc]
  unfold gelu
  rw [e]
  rfl

variable (m : (ℓ : Loc nD τ sig) → Buf (Elt Ideal) ℓ) (ρ : Dev nD → PrngReg) (c : Dev nD)

/-- Device `c`'s rows of the first argument, and the second argument, as arrays of extended reals. -/
def argX : (⟨2, ![512, 8192]⟩ : Shape).Idx → EReal := m ((c : Thread nD τ).loc main_arg0)
def argW : (⟨2, ![8192, 4096]⟩ : Shape).Idx → EReal := m ((c : Thread nD τ).loc main_arg1)

theorem xstg_eq : (xstg m ρ c : S512x8192.Idx → EReal) = argX m c :=
  Memref.read_access_unit_zero (Elt Ideal) main_arg0 (funext fun a => by fin_cases a <;> decide) (fun a => by fin_cases a <;> decide) _

theorem xv_apply (k : Fin 4) (r : Fin 512) (i : Fin 2048) :
    (xv m ρ c k (ix2 r i) : EReal) = argX m c (ix2 r ⟨2048 * k.val + i.val, by omega⟩) := by
  rw [← xstg_eq m ρ c]
  refine congrArg (xstg m ρ c) (funext fun a => Fin.ext ?_)
  match a with
  | ⟨0, _⟩ => show 0 + 1 * r.val = r.val; omega
  | ⟨1, _⟩ => show 2048 * k.val + 1 * i.val = 2048 * k.val + i.val; omega

theorem wv_apply (k g : Fin 4) (i : Fin 2048) (q : Fin 1024) :
    (wv m c k g (ix3 (0 : Fin 1) i q) : EReal)
      = argW m c (ix2 ⟨2048 * k.val + i.val, by omega⟩ ⟨1024 * g.val + q.val, by omega⟩) := by
  have h : shapeCast S2048x1024 (wv m c k g) shapeCasts_S1x2048x1024_S2048x1024
      = ((View.whole main_arg1).slice (rw' k g)).read (Elt Ideal) (m ((c : Thread nD τ).loc main_arg1)) := by
    funext y
    exact congrArg _ (Equiv.symm_apply_apply _ y)
  refine (shapeCast_1ab_ab_apply (a := 2048) (b := 1024) (wv m c k g) shapeCasts_S1x2048x1024_S2048x1024 i q).symm.trans ?_
  rw [h]
  refine congrArg (argW m c) (funext fun a => Fin.ext ?_)
  match a with
  | ⟨0, _⟩ => show 2048 * k.val + 1 * i.val = 2048 * k.val + i.val; omega
  | ⟨1, _⟩ => show 1024 * g.val + 1 * q.val = 1024 * g.val + q.val; omega

/-- One partial product, in terms of the arguments. -/
theorem piece_apply (k g : Fin 4) (r : Fin 512) (q : Fin 1024) :
    k0_pay1 (F := Ideal) (xv m ρ c k) (wv m c k g) (ix2 r q)
      = ∑ i : Fin 2048, argX m c (ix2 r ⟨2048 * k.val + i.val, by omega⟩)
          * argW m c (ix2 ⟨2048 * k.val + i.val, by omega⟩ ⟨1024 * g.val + q.val, by omega⟩) := by
  rw [part_apply]
  exact Finset.sum_congr rfl fun i _ => congrArg₂ (· * ·) (xv_apply m ρ c k r i) (wv_apply m c k g i q)

/-- An entry of a column group's tile: the activation of one entry of the whole product. -/
theorem yFull_apply (g : Fin 4) (r : Fin 512) (q : Fin 1024) :
    (yFull m ρ c g (ix2 r q) : EReal)
      = gelu (∑ i : Fin 8192, argX m c (ix2 r i) * argW m c (ix2 i ⟨1024 * g.val + q.val, by omega⟩)) := by
  unfold yFull
  rw [pay4_apply, pay3_apply, pay2_apply, sum_pieces]
  dsimp only
  rw [piece_apply, piece_apply, piece_apply, piece_apply]
  rfl

/-! ## The tiles and the result -/

theorem slice_apply (Y : FVec Ideal S512x1024 .f32) (o : ℕ) (h : S512x1024.Slices ![0, o] S512x256) (r : Fin 512) (q : Fin 256)
    (hq : o + q.val < 1024) : (extractStridedSlice S512x256 ![0, o] Y h (ix2 r q) : EReal) = Y (ix2 r ⟨o + q.val, hq⟩) :=
  extractStridedSlice_apply ![0, o] Y h _ _ fun a => match a with
    | ⟨0, _⟩ => (Nat.zero_add _).symm
    | ⟨1, _⟩ => rfl

theorem tile_apply (Y : FVec Ideal S512x1024 .f32) (t : Fin 4) (r : Fin 512) (q : Fin 256) :
    (tile Y t (ix2 r q) : EReal) = Y (ix2 r ⟨256 * t.val + q.val, by omega⟩) :=
  match t with
  | 0 => slice_apply Y 0 slices_S512x1024_o0_0_S512x256 r q _
  | 1 => slice_apply Y 256 slices_S512x1024_o0_256_S512x256 r q _
  | 2 => slice_apply Y 512 slices_S512x1024_o0_512_S512x256 r q _
  | 3 => slice_apply Y 768 slices_S512x1024_o0_768_S512x256 r q _

/-- Narrowing a tile to be sent and widening it on arrival gives the tile back. -/
theorem sent_back (s : Dev nD) : k0_pay53 (F := Ideal) (sent m ρ s c) = tileFor m ρ s c := by
  unfold k0_pay53 sent k0_pay6
  exact shapeCast_shapeCast (tileFor m ρ s c) shapeCasts_S512x256_S1x512x256 shapeCasts_S1x512x256_S512x256

theorem outBlk_eq (s : Dev nD) : outBlk m ρ c s = tileFor m ρ s c := by
  unfold outBlk
  by_cases h : s = c
  · subst h; rw [if_pos rfl]
  · rw [if_neg h, sent_back]

/-- An entry of device `c`'s result: row block `s` is what device `s` computed for `c`. -/
theorem outBlk_apply (s : Dev nD) (r : Fin 512) (q : Fin 256) :
    (outBlk m ρ c s (ix2 r q) : EReal)
      = gelu (∑ i : Fin 8192, argX m s (ix2 r i)
          * argW m s (ix2 i ⟨256 * c.val + q.val, by have : c.val < 16 := c.isLt; omega⟩)) := by
  have hc : c.val < 16 := c.isLt
  rw [outBlk_eq]
  unfold tileFor
  rw [tile_apply, yFull_apply]
  refine congrArg gelu (Finset.sum_congr rfl fun i _ => congrArg (argX m s (ix2 r i) * argW m s ·) ?_)
  refine congrArg (ix2 i) (Fin.ext ?_)
  show 1024 * (c.val / 4) + (256 * (c.val % 4) + q.val) = 256 * c.val + q.val
  omega

end Cert.Exchange

end
-- ==== Proof.Claims.lean ====
/-
# The claims

The run of the kernel gives the two frames of its own text, over floating-point words and over the extended reals. The
reference's run gives its frame, and, entry by entry, the value every device's result is a block of.
-/
module

public import proofs.«01_k».proof.Defs
public import proofs.«01_k».proof.Proof.Gen.Kernel
public import proofs.«01_k».proof.Proof.Value
public import Idealize.ShloMosaic.Lib.StackMember

@[expose] public section

noncomputable section

namespace Cert.Exchange

open Cert.KernelIdeal Cert.KernelIdeal.Gen
open Idealize.ShloMosaic Idealize.ShloMosaic.TcCoe Idealize.ShloMosaic.ValueIdx Idealize.SL.Sem
open scoped BigOperators

/-! ## The frames -/

section
variable {F : FTy → Type} [FloatOps F] (m : (ℓ : Loc nD τ sig) → Buf (Elt F) ℓ) (ρ : Dev nD → PrngReg)

/-- The kernel's run, read at its arguments. -/
theorem run_args : θ_run defs (onTc (τ := τ) (main (F := F))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  (θ_run defs _ _).mono (fun _ h => ⟨fun c => ⟨((h.1 c).1 (0 : Fin 2)).trans (finalA_x m ρ c), (h.1 c).2⟩, h.2⟩) (run_main m ρ)
end

/-- The two programs have the same text, so the same table of bodies. -/
theorem bodies_eq : Cert.Kernel.defs₀ (F := Bits) = defs₀ (F := Bits) := by
  unfold Cert.Kernel.defs₀ Cert.KernelIdeal.defs₀
  refine congrArg Defs.onTc ?_
  funext l x
  match l, x with
  | 0, (t, s) =>
    show Cert.Kernel.cc0_body _ _ _ _ _ _ _ _ _ _ _ _ _ _ _ = cc0_body _ _ _ _ _ _ _ _ _ _ _ _ _ _ _
    rfl
  | ⟨_ + 1, h⟩, _ => exact absurd h (Nat.not_lt.2 (Nat.le_add_left _ _))

theorem tables_eq : Cert.Kernel.defs (F := Bits) = defs (F := Bits) := congrArg (Pipeline.defs (pcfgs (F := Bits))) bodies_eq

theorem frame_kernel : Cert.quiescent_Kernel := fun m ρ _ =>
  (congrArg (fun D => θ_run D (onTc (τ := τ) (main (F := Bits))) ⟨m, fun _ => 0, ρ⟩ fun r =>
    (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) tables_eq).mpr
    (run_args (F := Bits) m ρ)
theorem frame_ideal : Cert.quiescent_KernelIdeal := fun m ρ _ => run_args (F := Ideal) m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The reference's value -/

/-- The whole result: the activation of every entry of the product. -/
def whole (X : (⟨2, ![8192, 8192]⟩ : Shape).Idx → EReal) (W : (⟨2, ![8192, 4096]⟩ : Shape).Idx → EReal) :
    (⟨2, ![8192, 4096]⟩ : Shape).Idx → EReal := fun j => gelu (∑ i : Fin 8192, X (ix2 (j 0) i) * W (ix2 i (j 1)))

section
open Cert.ReferenceIdeal.Gen
/-- A constant at every entry of the reference's arrays. -/
abbrev splat (w : BitVec 32) : FVec Ideal Cert.ReferenceIdeal.S8192x4096 .f32 :=
  broadcastInDim Cert.ReferenceIdeal.S8192x4096 ![] bcast_S_S8192x4096 (constant Cert.ReferenceIdeal.S_ .f32 w)

/-- The reference's activation, read at one entry. -/
theorem host_gelu (P : FVec Ideal Cert.ReferenceIdeal.S8192x4096 .f32) (j : Cert.ReferenceIdeal.S8192x4096.Idx) :
    (mulf (mulf (splat 0x3F000000#32) P) (addf (splat 0x3F800000#32) (Host.tanh (mulf (splat 0x3F4C422A#32)
      (addf P (mulf (splat 0x3D372713#32) (mulf (mulf P P) P)))))) j : Ideal .f32) = gelu (P j) := rfl

/-- What the reference computes is `whole` of its arguments. -/
theorem reference_eq (X : (⟨2, ![8192, 8192]⟩ : Shape).Idx → EReal) (W : (⟨2, ![8192, 4096]⟩ : Shape).Idx → EReal)
    (m' : (ℓ : Loc Cert.ReferenceIdeal.nD Cert.ReferenceIdeal.τ Cert.ReferenceIdeal.sig) → Buf (Elt Ideal) ℓ) (g' : Dev Cert.ReferenceIdeal.nD → PrngReg)
    (hX : X = m' (((0 : Dev Cert.ReferenceIdeal.nD).tc : Thread Cert.ReferenceIdeal.nD Cert.ReferenceIdeal.τ).loc Cert.ReferenceIdeal.main_arg0))
    (hW : W = m' (((0 : Dev Cert.ReferenceIdeal.nD).tc : Thread Cert.ReferenceIdeal.nD Cert.ReferenceIdeal.τ).loc Cert.ReferenceIdeal.main_arg1)) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v15) = whole X W
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine (θ_run Cert.ReferenceIdeal.defs _ _).mono (fun r h => ⟨(h 0).1.trans ?_, (h 0).2⟩)
    (Cert.ReferenceIdeal.Value.run (F := Ideal) m' g')
  rw [← hX, ← hW]
  funext j
  have hdot := StackMember.dotGeneral_plain_apply (m := 8192) (k := 8192) (n := 4096) (φ₁ := .f32) (φ₂ := .f32) none X W (j 0) (j 1)
  have hj : (DotDims.plain 8192 8192 4096) = Cert.ReferenceIdeal.dot_S8192x8192_S8192x4096_S8192x4096_1_0_0_1_n_n := rfl
  have ej : ix2 (n0 := 8192) (n1 := 4096) (j 0) (j 1) = j := (eq_ix2 (n0 := 8192) (n1 := 4096) j).symm
  rw [hj, ej] at hdot
  exact (host_gelu _ j).trans (congrArg gelu hdot)
end

/-! ## The algebraic claim -/

section
variable (m : (ℓ : Loc nD τ sig) → Buf (Elt Ideal) ℓ) (ρ : Dev nD → PrngReg) (c : Dev nD)

/-- Device `c`'s result is block `c` of the whole result. -/
theorem outAt_eq (X : (⟨2, ![8192, 8192]⟩ : Shape).Idx → EReal) (W : (⟨2, ![8192, 4096]⟩ : Shape).Idx → EReal)
    (hX : ∀ s : Dev nD, argX m s = Layout.block ⟨2, ![512, 8192]⟩ ⟨2, ![8192, 8192]⟩ 0 16 s X) (hW : ∀ s : Dev nD, argW m s = W) :
    (outAt m ρ c : (⟨2, ![8192, 256]⟩ : Shape).Idx → EReal) = Layout.block ⟨2, ![8192, 256]⟩ ⟨2, ![8192, 4096]⟩ 1 16 c (whole X W) := by
  funext p
  have hp : (p 0).val < 8192 := (p 0).isLt
  have hq : (p 1).val < 256 := (p 1).isLt
  have e : inBlk p = ix2 (⟨(p 0).val % 512, Nat.mod_lt _ (by decide)⟩ : Fin 512) (⟨(p 1).val, hq⟩ : Fin 256) :=
    eq_ix2 (n0 := 512) (n1 := 256) (inBlk p)
  show (outBlk m ρ c (blkOf p) (inBlk p) : EReal) = whole X W _
  rw [e, outBlk_apply]
  unfold whole
  refine congrArg gelu (Finset.sum_congr rfl fun i _ => congrArg₂ (· * ·)
    ((congrFun (hX _) _).trans (congrArg X ?_)) ((congrFun (hW _) _).trans (congrArg W ?_)))
  · refine Shape.idx_ext₂ ?_ rfl
    show (p 0).val / 512 * 512 + (p 0).val % 512 = (p 0).val
    omega
  · refine Shape.idx_ext₂ rfl ?_
    show 256 * c.val + (p 1).val = c.val * 256 + (p 1).val
    omega

/-- The result buffer at the end of the kernel's run. -/
theorem finalA_v1 : finalA m ρ c (1 : Fin 2) = outAt m ρ c := by
  rw [← finalA_out]
  exact (Memref.read_access_unit_zero (Elt Ideal) main_v1 (funext fun a => by fin_cases a <;> decide) (fun a => by fin_cases a <;> decide) _).symm
end

theorem algebraic : Cert.algebraic_KernelIdeal_ReferenceIdeal := by
  intro m g m' g' _ hagree
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_,
    reference_eq _ _ m' g' rfl rfl⟩
  refine (θ_run defs _ _).mono (fun _ h c => ⟨((h.1 c).1 (1 : Fin 2)).trans ?_, ((h.1 c).1 (0 : Fin 2)).trans (finalA_x m g c), (h.1 c).2⟩)
    (run_main (F := Ideal) m g)
  exact (finalA_v1 m g c).trans (outAt_eq m g c _ _ (fun s => (hagree s).1) (fun s => (hagree s).2))

end Cert.Exchange

end
-- ==== Proof.lean ====
/-
# The certificate

The five claims of `Cert.Claim`, put together: the frames of the kernel and of its idealization, the frame of the
reference, that the idealization is the kernel's own text, and that over the extended reals every device's result is its
block of the reference's. They are proved in `Proof/Claims.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.algebraic⟩

end Cert.Proof

end
